-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "npix_inv" .f32 0x35E38E39#32 ((1 / 589824 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v266) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x3x384x384 : Shape := ⟨4, ![4, 3, 384, 384]⟩
abbrev S64x3x3x3 : Shape := ⟨4, ![64, 3, 3, 3]⟩
abbrev S64 : Shape := ⟨1, ![64]⟩
abbrev S128x64x3x3 : Shape := ⟨4, ![128, 64, 3, 3]⟩
abbrev S128 : Shape := ⟨1, ![128]⟩
abbrev S128x3x4x4 : Shape := ⟨4, ![128, 3, 4, 4]⟩
abbrev S3 : Shape := ⟨1, ![3]⟩
abbrev S_ : Shape := ⟨0, ![]⟩

class Facts : Prop where
  bcast_S_S4x3x384x384 : S_.BroadcastsInDim S4x3x384x384 (![] : Fin 0 → Fin S4x3x384x384.rank)
  bcast_S_S64x3x3x3 : S_.BroadcastsInDim S64x3x3x3 (![] : Fin 0 → Fin S64x3x3x3.rank)
  bcast_S_S64 : S_.BroadcastsInDim S64 (![] : Fin 0 → Fin S64.rank)
  bcast_S_S128x64x3x3 : S_.BroadcastsInDim S128x64x3x3 (![] : Fin 0 → Fin S128x64x3x3.rank)
  bcast_S_S128 : S_.BroadcastsInDim S128 (![] : Fin 0 → Fin S128.rank)

variable [Facts]

def fn_part1 {F : FTy → Type} [FloatOps F] (main_arg7 : FVec F S128 .f32) (main_v2 : IVec S4x3x384x384 1) (main_v5 : IVec S64x3x3x3 1) (main_v8 : IVec S64 1) (main_v11 : IVec S64 1) (main_v13 : IVec S64 1) (main_v16 : IVec S128x64x3x3 1) (main_v17 : FVec F S128 .f32) : IVec S4x3x384x384 1 × IVec S64x3x3x3 1 × IVec S64 1 × IVec S64 1 × IVec S64 1 × IVec S128x64x3x3 1 × IVec S128 1 × IVec S128 1 :=
  let main_cst_5 : FVec F S_ .f32 := constant S_ .f32 0x7F800000#32
  let main_v18 : FVec F S128 .f32 := broadcastInDim S128 ![] bcast_S_S128 main_cst_5
  let main_v19 : IVec S128 1 := cmpf .olt main_v17 main_v18
  let main_cst_6 : FVec F S_ .f32 := constant S_ .f32 0x00000000#32
  let main_v20 : FVec F S128 .f32 := broadcastInDim S128 ![] bcast_S_S128 main_cst_6
  let main_v21 : IVec S128 1 := cmpf .oge main_arg7 main_v20
  let main_cst_7 : FVec F S_ .f32 := constant S_ .f32 0x7F800000#32
  let main_v22 : FVec F S128 .f32 := broadcastInDim S128 ![] bcast_S_S128 main_cst_7
  let main_v23 : IVec S128 1 := cmpf .olt main_arg7 main_v22
  let main_v24 : IVec S128 1 := andi main_v21 main_v23
  (main_v2, main_v5, main_v8, main_v11, main_v13, main_v16, main_v19, main_v24)

def fn {F : FTy → Type} [FloatOps F] (main_arg0 : FVec F S4x3x384x384 .f32) (main_arg1 : FVec F S64x3x3x3 .f32) (main_arg2 : FVec F S64 .f32) (main_arg3 : FVec F S64 .f32) (main_arg4 : FVec F S64 .f32) (main_arg5 : FVec F S128x64x3x3 .f32) (main_arg6 : FVec F S128 .f32) (main_arg7 : FVec F S128 .f32) (main_arg8 : FVec F S128 .f32) (main_arg9 : FVec F S128x3x4x4 .f32) (main_arg10 : FVec F S3 .f32) : IVec S4x3x384x384 1 × IVec S64x3x3x3 1 × IVec S64 1 × IVec S64 1 × IVec S64 1 × IVec S128x64x3x3 1 × IVec S128 1 × IVec S128 1 :=
  let main_v0 : FVec F S4x3x384x384 .f32 := Host.absf main_arg0
  let main_cst : FVec F S_ .f32 := constant S_ .f32 0x7F800000#32
  let main_v1 : FVec F S4x3x384x384 .f32 := broadcastInDim S4x3x384x384 ![] bcast_S_S4x3x384x384 main_cst
  let main_v2 : IVec S4x3x384x384 1 := cmpf .olt main_v0 main_v1
  let main_v3 : FVec F S64x3x3x3 .f32 := Host.absf main_arg1
  let main_cst_0 : FVec F S_ .f32 := constant S_ .f32 0x7F800000#32
  let main_v4 : FVec F S64x3x3x3 .f32 := broadcastInDim S64x3x3x3 ![] bcast_S_S64x3x3x3 main_cst_0
  let main_v5 : IVec S64x3x3x3 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_cst_3 : FVec F S_ .f32 := constant S_ .f32 0x7F800000#32
  let main_v12 : FVec F S64 .f32 := broadcastInDim S64 ![] bcast_S_S64 main_cst_3
  let main_v13 : IVec S64 1 := cmpf .olt main_arg4 main_v12
  let main_v14 : FVec F S128x64x3x3 .f32 := Host.absf main_arg5
  let main_cst_4 : FVec F S_ .f32 := constant S_ .f32 0x7F800000#32
  let main_v15 : FVec F S128x64x3x3 .f32 := broadcastInDim S128x64x3x3 ![] bcast_S_S128x64x3x3 main_cst_4
  let main_v16 : IVec S128x64x3x3 1 := cmpf .olt main_v14 main_v15
  let main_v17 : FVec F S128 .f32 := Host.absf main_arg6
  fn_part1 (F := F) main_arg7 main_v2 main_v5 main_v8 main_v11 main_v13 main_v16 main_v17
-- ==== Kernel.lean ====
abbrev S4x3x384x384 : Shape := ⟨4, ![4, 3, 384, 384]⟩
abbrev S64x3x3x3 : Shape := ⟨4, ![64, 3, 3, 3]⟩
abbrev S64 : Shape := ⟨1, ![64]⟩
abbrev S128x64x3x3 : Shape := ⟨4, ![128, 64, 3, 3]⟩
abbrev S128 : Shape := ⟨1, ![128]⟩
abbrev S128x3x4x4 : Shape := ⟨4, ![128, 3, 4, 4]⟩
abbrev S3 : Shape := ⟨1, ![3]⟩
abbrev S4x384x3x384 : Shape := ⟨4, ![4, 384, 3, 384]⟩
abbrev S_ : Shape := ⟨0, ![]⟩
abbrev S4x388x3x388 : Shape := ⟨4, ![4, 388, 3, 388]⟩
abbrev S3x3x3x64 : Shape := ⟨4, ![3, 3, 3, 64]⟩
abbrev S3x3x64x128 : Shape := ⟨4, ![3, 3, 64, 128]⟩
abbrev S3x3x128x12 : Shape := ⟨4, ![3, 3, 128, 12]⟩
abbrev S128x3x1x1 : Shape := ⟨4, ![128, 3, 1, 1]⟩
abbrev S128x3 : Shape := ⟨2, ![128, 3]⟩
abbrev S1 : Shape := ⟨1, ![1]⟩
abbrev S1x3 : Shape := ⟨2, ![1, 3]⟩
abbrev S4x3 : Shape := ⟨2, ![4, 3]⟩
abbrev S12 : Shape := ⟨1, ![12]⟩
abbrev S1x12 : Shape := ⟨2, ![1, 12]⟩
abbrev S1x64 : Shape := ⟨2, ![1, 64]⟩
abbrev S1x128 : Shape := ⟨2, ![1, 128]⟩
abbrev S1x388x3x388 : Shape := ⟨4, ![1, 388, 3, 388]⟩
abbrev S32x384x64 : Shape := ⟨3, ![32, 384, 64]⟩
abbrev S1x32x3x384 : Shape := ⟨4, ![1, 32, 3, 384]⟩
abbrev S32x3x384 : Shape := ⟨3, ![32, 3, 384]⟩
abbrev S1x1x3x64 : Shape := ⟨4, ![1, 1, 3, 64]⟩
abbrev S3x64 : Shape := ⟨2, ![3, 64]⟩
abbrev S4x192x192x128 : Shape := ⟨4, ![4, 192, 192, 128]⟩
abbrev S1x16x192x128 : Shape := ⟨4, ![1, 16, 192, 128]⟩
abbrev S34x386x64 : Shape := ⟨3, ![34, 386, 64]⟩
abbrev S1x34x3x386 : Shape := ⟨4, ![1, 34, 3, 386]⟩
abbrev S34x3x386 : Shape := ⟨3, ![34, 3, 386]⟩
abbrev S1x1x64 : Shape := ⟨3, ![1, 1, 64]⟩
abbrev S34x386x1 : Shape := ⟨3, ![34, 386, 1]⟩
abbrev S32x384x128 : Shape := ⟨3, ![32, 384, 128]⟩
abbrev S1x1x64x128 : Shape := ⟨4, ![1, 1, 64, 128]⟩
abbrev S64x128 : Shape := ⟨2, ![64, 128]⟩
abbrev S16x2x192x2x128 : Shape := ⟨5, ![16, 2, 192, 2, 128]⟩
abbrev S16x192x128 : Shape := ⟨3, ![16, 192, 128]⟩
abbrev S4x192x194x128 : Shape := ⟨4, ![4, 192, 194, 128]⟩
abbrev S4x192x192x12 : Shape := ⟨4, ![4, 192, 192, 12]⟩
abbrev S1x32x194x128 : Shape := ⟨4, ![1, 32, 194, 128]⟩
abbrev S1x32x192x12 : Shape := ⟨4, ![1, 32, 192, 12]⟩
abbrev S1x1x194x128 : Shape := ⟨4, ![1, 1, 194, 128]⟩
abbrev S1x194x128 : Shape := ⟨3, ![1, 194, 128]⟩
abbrev S32x194x128 : Shape := ⟨3, ![32, 194, 128]⟩
abbrev S34x194x128 : Shape := ⟨3, ![34, 194, 128]⟩
abbrev S1x1x128 : Shape := ⟨3, ![1, 1, 128]⟩
abbrev S34x194x1 : Shape := ⟨3, ![34, 194, 1]⟩
abbrev S32x192x12 : Shape := ⟨3, ![32, 192, 12]⟩
abbrev S32x192x128 : Shape := ⟨3, ![32, 192, 128]⟩
abbrev S1x1x128x12 : Shape := ⟨4, ![1, 1, 128, 12]⟩
abbrev S128x12 : Shape := ⟨2, ![128, 12]⟩
abbrev S1x1x12 : Shape := ⟨3, ![1, 1, 12]⟩
abbrev S4x192x192x2x2x3 : Shape := ⟨6, ![4, 192, 192, 2, 2, 3]⟩
abbrev S4x3x192x2x192x2 : Shape := ⟨6, ![4, 3, 192, 2, 192, 2]⟩

abbrev nBuf : Space → Nat
  | .hbm => 199
  | .vmem => 31
  | .smem => 0
  | _ => 0

abbrev hbmTy0_0 (i : Nat) : BufTy := match i % 128 with
  | 0 => ⟨S4x3x384x384, .f32⟩
  | 1 => ⟨S64x3x3x3, .f32⟩
  | 2 => ⟨S64, .f32⟩
  | 3 => ⟨S64, .f32⟩
  | 4 => ⟨S64, .f32⟩
  | 5 => ⟨S128x64x3x3, .f32⟩
  | 6 => ⟨S128, .f32⟩
  | 7 => ⟨S128, .f32⟩
  | 8 => ⟨S128, .f32⟩
  | 9 => ⟨S128x3x4x4, .f32⟩
  | 10 => ⟨S3, .f32⟩
  | 11 => ⟨S4x384x3x384, .f32⟩
  | 12 => ⟨S_, .i32⟩
  | 13 => ⟨S_, .f32⟩
  | 14 => ⟨S4x388x3x388, .f32⟩
  | 15 => ⟨S3x3x3x64, .f32⟩
  | 16 => ⟨S3x3x64x128, .f32⟩
  | 17 => ⟨S_, .f32⟩
  | 18 => ⟨S3x3x128x12, .f32⟩
  | 19 => ⟨S128x3x1x1, .f32⟩
  | 20 => ⟨S128x3, .f32⟩
  | 21 => ⟨S_, .i32⟩
  | 22 => ⟨S1, .i32⟩
  | 23 => ⟨S_, .i32⟩
  | 24 => ⟨S1, .i32⟩
  | 25 => ⟨S_, .i32⟩
  | 26 => ⟨S1, .i32⟩
  | 27 => ⟨S3, .i32⟩
  | 28 => ⟨S3x3x128x12, .f32⟩
  | 29 => ⟨S128x3x1x1, .f32⟩
  | 30 => ⟨S128x3, .f32⟩
  | 31 => ⟨S_, .i32⟩
  | 32 => ⟨S1, .i32⟩
  | 33 => ⟨S_, .i32⟩
  | 34 => ⟨S1, .i32⟩
  | 35 => ⟨S_, .i32⟩
  | 36 => ⟨S1, .i32⟩
  | 37 => ⟨S3, .i32⟩
  | 38 => ⟨S3x3x128x12, .f32⟩
  | 39 => ⟨S128x3x1x1, .f32⟩
  | 40 => ⟨S128x3, .f32⟩
  | 41 => ⟨S_, .i32⟩
  | 42 => ⟨S1, .i32⟩
  | 43 => ⟨S_, .i32⟩
  | 44 => ⟨S1, .i32⟩
  | 45 => ⟨S_, .i32⟩
  | 46 => ⟨S1, .i32⟩
  | 47 => ⟨S3, .i32⟩
  | 48 => ⟨S3x3x128x12, .f32⟩
  | 49 => ⟨S128x3x1x1, .f32⟩
  | 50 => ⟨S128x3, .f32⟩
  | 51 => ⟨S_, .i32⟩
  | 52 => ⟨S1, .i32⟩
  | 53 => ⟨S_, .i32⟩
  | 54 => ⟨S1, .i32⟩
  | 55 => ⟨S_, .i32⟩
  | 56 => ⟨S1, .i32⟩
  | 57 => ⟨S3, .i32⟩
  | 58 => ⟨S3x3x128x12, .f32⟩
  | 59 => ⟨S128x3x1x1, .f32⟩
  | 60 => ⟨S128x3, .f32⟩
  | 61 => ⟨S_, .i32⟩
  | 62 => ⟨S1, .i32⟩
  | 63 => ⟨S_, .i32⟩
  | 64 => ⟨S1, .i32⟩
  | 65 => ⟨S_, .i32⟩
  | 66 => ⟨S1, .i32⟩
  | 67 => ⟨S3, .i32⟩
  | 68 => ⟨S3x3x128x12, .f32⟩
  | 69 => ⟨S128x3x1x1, .f32⟩
  | 70 => ⟨S128x3, .f32⟩
  | 71 => ⟨S_, .i32⟩
  | 72 => ⟨S1, .i32⟩
  | 73 => ⟨S_, .i32⟩
  | 74 => ⟨S1, .i32⟩
  | 75 => ⟨S_, .i32⟩
  | 76 => ⟨S1, .i32⟩
  | 77 => ⟨S3, .i32⟩
  | 78 => ⟨S3x3x128x12, .f32⟩
  | 79 => ⟨S128x3x1x1, .f32⟩
  | 80 => ⟨S128x3, .f32⟩
  | 81 => ⟨S_, .i32⟩
  | 82 => ⟨S1, .i32⟩
  | 83 => ⟨S_, .i32⟩
  | 84 => ⟨S1, .i32⟩
  | 85 => ⟨S_, .i32⟩
  | 86 => ⟨S1, .i32⟩
  | 87 => ⟨S3, .i32⟩
  | 88 => ⟨S3x3x128x12, .f32⟩
  | 89 => ⟨S128x3x1x1, .f32⟩
  | 90 => ⟨S128x3, .f32⟩
  | 91 => ⟨S_, .i32⟩
  | 92 => ⟨S1, .i32⟩
  | 93 => ⟨S_, .i32⟩
  | 94 => ⟨S1, .i32⟩
  | 95 => ⟨S_, .i32⟩
  | 96 => ⟨S1, .i32⟩
  | 97 => ⟨S3, .i32⟩
  | 98 => ⟨S3x3x128x12, .f32⟩
  | 99 => ⟨S128x3x1x1, .f32⟩
  | 100 => ⟨S128x3, .f32⟩
  | 101 => ⟨S_, .i32⟩
  | 102 => ⟨S1, .i32⟩
  | 103 => ⟨S_, .i32⟩
  | 104 => ⟨S1, .i32⟩
  | 105 => ⟨S_, .i32⟩
  | 106 => ⟨S1, .i32⟩
  | 107 => ⟨S3, .i32⟩
  | 108 => ⟨S3x3x128x12, .f32⟩
  | 109 => ⟨S128x3x1x1, .f32⟩
  | 110 => ⟨S128x3, .f32⟩
  | 111 => ⟨S_, .i32⟩
  | 112 => ⟨S1, .i32⟩
  | 113 => ⟨S_, .i32⟩
  | 114 => ⟨S1, .i32⟩
  | 115 => ⟨S_, .i32⟩
  | 116 => ⟨S1, .i32⟩
  | 117 => ⟨S3, .i32⟩
  | 118 => ⟨S3x3x128x12, .f32⟩
  | 119 => ⟨S128x3x1x1, .f32⟩
  | 120 => ⟨S128x3, .f32⟩
  | 121 => ⟨S_, .i32⟩
  | 122 => ⟨S1, .i32⟩
  | 123 => ⟨S_, .i32⟩
  | 124 => ⟨S1, .i32⟩
  | 125 => ⟨S_, .i32⟩
  | 126 => ⟨S1, .i32⟩
  | 127 => ⟨S3, .i32⟩
  | _ => ⟨S4x3x384x384, .f32⟩

abbrev hbmTy0_1 (i : Nat) : BufTy := match i % 128 with
  | 0 => ⟨S3x3x128x12, .f32⟩
  | 1 => ⟨S128x3x1x1, .f32⟩
  | 2 => ⟨S128x3, .f32⟩
  | 3 => ⟨S_, .i32⟩
  | 4 => ⟨S1, .i32⟩
  | 5 => ⟨S_, .i32⟩
  | 6 => ⟨S1, .i32⟩
  | 7 => ⟨S_, .i32⟩
  | 8 => ⟨S1, .i32⟩
  | 9 => ⟨S3, .i32⟩
  | 10 => ⟨S3x3x128x12, .f32⟩
  | 11 => ⟨S128x3x1x1, .f32⟩
  | 12 => ⟨S128x3, .f32⟩
  | 13 => ⟨S_, .i32⟩
  | 14 => ⟨S1, .i32⟩
  | 15 => ⟨S_, .i32⟩
  | 16 => ⟨S1, .i32⟩
  | 17 => ⟨S_, .i32⟩
  | 18 => ⟨S1, .i32⟩
  | 19 => ⟨S3, .i32⟩
  | 20 => ⟨S3x3x128x12, .f32⟩
  | 21 => ⟨S128x3x1x1, .f32⟩
  | 22 => ⟨S128x3, .f32⟩
  | 23 => ⟨S_, .i32⟩
  | 24 => ⟨S1, .i32⟩
  | 25 => ⟨S_, .i32⟩
  | 26 => ⟨S1, .i32⟩
  | 27 => ⟨S_, .i32⟩
  | 28 => ⟨S1, .i32⟩
  | 29 => ⟨S3, .i32⟩
  | 30 => ⟨S3x3x128x12, .f32⟩
  | 31 => ⟨S128x3x1x1, .f32⟩
  | 32 => ⟨S128x3, .f32⟩
  | 33 => ⟨S_, .i32⟩
  | 34 => ⟨S1, .i32⟩
  | 35 => ⟨S_, .i32⟩
  | 36 => ⟨S1, .i32⟩
  | 37 => ⟨S_, .i32⟩
  | 38 => ⟨S1, .i32⟩
  | 39 => ⟨S3, .i32⟩
  | 40 => ⟨S3x3x128x12, .f32⟩
  | 41 => ⟨S128x3x1x1, .f32⟩
  | 42 => ⟨S128x3, .f32⟩
  | 43 => ⟨S_, .i32⟩
  | 44 => ⟨S1, .i32⟩
  | 45 => ⟨S_, .i32⟩
  | 46 => ⟨S1, .i32⟩
  | 47 => ⟨S_, .i32⟩
  | 48 => ⟨S1, .i32⟩
  | 49 => ⟨S3, .i32⟩
  | 50 => ⟨S3x3x128x12, .f32⟩
  | 51 => ⟨S1x3, .f32⟩
  | 52 => ⟨S4x3, .f32⟩
  | 53 => ⟨S12, .f32⟩
  | 54 => ⟨S1x12, .f32⟩
  | 55 => ⟨S1x64, .f32⟩
  | 56 => ⟨S1x64, .f32⟩
  | 57 => ⟨S1x128, .f32⟩
  | 58 => ⟨S1x128, .f32⟩
  | 59 => ⟨S1x64, .f32⟩
  | 60 => ⟨S1x64, .f32⟩
  | 61 => ⟨S4x192x192x128, .f32⟩
  | 62 => ⟨S1x128, .f32⟩
  | 63 => ⟨S1x128, .f32⟩
  | 64 => ⟨S_, .i32⟩
  | 65 => ⟨S_, .f32⟩
  | 66 => ⟨S4x192x194x128, .f32⟩
  | 67 => ⟨S4x192x192x12, .f32⟩
  | 68 => ⟨S4x192x192x2x2x3, .f32⟩
  | 69 => ⟨S4x3x192x2x192x2, .f32⟩
  | 70 => ⟨S4x3x384x384, .f32⟩
  | _ => ⟨S4x3x384x384, .f32⟩

abbrev hbmTy (i : Nat) : BufTy := match i / 128 with
  | 0 => hbmTy0_0 i
  | 1 => hbmTy0_1 i
  | _ => ⟨S4x3x384x384, .f32⟩

abbrev bufTy : (tb : Table) → Fin (tcTables nBuf tb) → BufTy
  | .hbm, ⟨i, _⟩ => hbmTy i
  | .local _ .vmem, ⟨0, _⟩ => ⟨S1x388x3x388, .f32⟩
  | .local _ .vmem, ⟨1, _⟩ => ⟨S1x388x3x388, .f32⟩
  | .local _ .vmem, ⟨2, _⟩ => ⟨S3x3x3x64, .f32⟩
  | .local _ .vmem, ⟨3, _⟩ => ⟨S1x64, .f32⟩
  | .local _ .vmem, ⟨4, _⟩ => ⟨S1x64, .f32⟩
  | .local _ .vmem, ⟨5, _⟩ => ⟨S1x388x3x388, .f32⟩
  | .local _ .vmem, ⟨6, _⟩ => ⟨S1x388x3x388, .f32⟩
  | .local _ .vmem, ⟨7, _⟩ => ⟨S3x3x3x64, .f32⟩
  | .local _ .vmem, ⟨8, _⟩ => ⟨S3x3x64x128, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x16x192x128, .f32⟩
  | .local _ .vmem, ⟨14, _⟩ => ⟨S1x16x192x128, .f32⟩
  | .local _ .vmem, ⟨15, _⟩ => ⟨S1x128, .f32⟩
  | .local _ .vmem, ⟨16, _⟩ => ⟨S1x128, .f32⟩
  | .local _ .vmem, ⟨17, _⟩ => ⟨S1x32x194x128, .f32⟩
  | .local _ .vmem, ⟨18, _⟩ => ⟨S1x32x194x128, .f32⟩
  | .local _ .vmem, ⟨19, _⟩ => ⟨S1x32x194x128, .f32⟩
  | .local _ .vmem, ⟨20, _⟩ => ⟨S1x32x194x128, .f32⟩
  | .local _ .vmem, ⟨21, _⟩ => ⟨S1x32x194x128, .f32⟩
  | .local _ .vmem, ⟨22, _⟩ => ⟨S1x32x194x128, .f32⟩
  | .local _ .vmem, ⟨23, _⟩ => ⟨S3x3x128x12, .f32⟩
  | .local _ .vmem, ⟨24, _⟩ => ⟨S1x128, .f32⟩
  | .local _ .vmem, ⟨25, _⟩ => ⟨S1x128, .f32⟩
  | .local _ .vmem, ⟨26, _⟩ => ⟨S1x12, .f32⟩
  | .local _ .vmem, ⟨27, _⟩ => ⟨S1x128, .f32⟩
  | .local _ .vmem, ⟨28, _⟩ => ⟨S1x128, .f32⟩
  | .local _ .vmem, ⟨29, _⟩ => ⟨S1x32x192x12, .f32⟩
  | .local _ .vmem, ⟨30, _⟩ => ⟨S1x32x192x12, .f32⟩
  | _, _ => ⟨S4x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_c_4 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_6 : Ref sig .tc := ⟨.hbm, 41, rfl⟩
abbrev main_v21 : Ref sig .tc := ⟨.hbm, 42, rfl⟩
abbrev main_c_7 : Ref sig .tc := ⟨.hbm, 43, rfl⟩
abbrev main_v22 : Ref sig .tc := ⟨.hbm, 44, rfl⟩
abbrev main_c_8 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_9 : Ref sig .tc := ⟨.hbm, 51, rfl⟩
abbrev main_v28 : Ref sig .tc := ⟨.hbm, 52, rfl⟩
abbrev main_c_10 : Ref sig .tc := ⟨.hbm, 53, rfl⟩
abbrev main_v29 : Ref sig .tc := ⟨.hbm, 54, rfl⟩
abbrev main_c_11 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_12 : Ref sig .tc := ⟨.hbm, 61, rfl⟩
abbrev main_v35 : Ref sig .tc := ⟨.hbm, 62, rfl⟩
abbrev main_c_13 : Ref sig .tc := ⟨.hbm, 63, rfl⟩
abbrev main_v36 : Ref sig .tc := ⟨.hbm, 64, rfl⟩
abbrev main_c_14 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_15 : Ref sig .tc := ⟨.hbm, 71, rfl⟩
abbrev main_v42 : Ref sig .tc := ⟨.hbm, 72, rfl⟩
abbrev main_c_16 : Ref sig .tc := ⟨.hbm, 73, rfl⟩
abbrev main_v43 : Ref sig .tc := ⟨.hbm, 74, rfl⟩
abbrev main_c_17 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_18 : Ref sig .tc := ⟨.hbm, 81, rfl⟩
abbrev main_v49 : Ref sig .tc := ⟨.hbm, 82, rfl⟩
abbrev main_c_19 : Ref sig .tc := ⟨.hbm, 83, rfl⟩
abbrev main_v50 : Ref sig .tc := ⟨.hbm, 84, rfl⟩
abbrev main_c_20 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_21 : Ref sig .tc := ⟨.hbm, 91, rfl⟩
abbrev main_v56 : Ref sig .tc := ⟨.hbm, 92, rfl⟩
abbrev main_c_22 : Ref sig .tc := ⟨.hbm, 93, rfl⟩
abbrev main_v57 : Ref sig .tc := ⟨.hbm, 94, rfl⟩
abbrev main_c_23 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_24 : Ref sig .tc := ⟨.hbm, 101, rfl⟩
abbrev main_v63 : Ref sig .tc := ⟨.hbm, 102, rfl⟩
abbrev main_c_25 : Ref sig .tc := ⟨.hbm, 103, rfl⟩
abbrev main_v64 : Ref sig .tc := ⟨.hbm, 104, rfl⟩
abbrev main_c_26 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_27 : Ref sig .tc := ⟨.hbm, 111, rfl⟩
abbrev main_v70 : Ref sig .tc := ⟨.hbm, 112, rfl⟩
abbrev main_c_28 : Ref sig .tc := ⟨.hbm, 113, rfl⟩
abbrev main_v71 : Ref sig .tc := ⟨.hbm, 114, rfl⟩
abbrev main_c_29 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_c_30 : Ref sig .tc := ⟨.hbm, 121, rfl⟩
abbrev main_v77 : Ref sig .tc := ⟨.hbm, 122, rfl⟩
abbrev main_c_31 : Ref sig .tc := ⟨.hbm, 123, rfl⟩
abbrev main_v78 : Ref sig .tc := ⟨.hbm, 124, rfl⟩
abbrev main_c_32 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_c_33 : Ref sig .tc := ⟨.hbm, 131, rfl⟩
abbrev main_v84 : Ref sig .tc := ⟨.hbm, 132, rfl⟩
abbrev main_c_34 : Ref sig .tc := ⟨.hbm, 133, rfl⟩
abbrev main_v85 : Ref sig .tc := ⟨.hbm, 134, rfl⟩
abbrev main_c_35 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_c_36 : Ref sig .tc := ⟨.hbm, 141, rfl⟩
abbrev main_v91 : Ref sig .tc := ⟨.hbm, 142, rfl⟩
abbrev main_c_37 : Ref sig .tc := ⟨.hbm, 143, rfl⟩
abbrev main_v92 : Ref sig .tc := ⟨.hbm, 144, rfl⟩
abbrev main_c_38 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_c_39 : Ref sig .tc := ⟨.hbm, 151, rfl⟩
abbrev main_v98 : Ref sig .tc := ⟨.hbm, 152, rfl⟩
abbrev main_c_40 : Ref sig .tc := ⟨.hbm, 153, rfl⟩
abbrev main_v99 : Ref sig .tc := ⟨.hbm, 154, rfl⟩
abbrev main_c_41 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_c_42 : Ref sig .tc := ⟨.hbm, 161, rfl⟩
abbrev main_v105 : Ref sig .tc := ⟨.hbm, 162, rfl⟩
abbrev main_c_43 : Ref sig .tc := ⟨.hbm, 163, rfl⟩
abbrev main_v106 : Ref sig .tc := ⟨.hbm, 164, rfl⟩
abbrev main_c_44 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_c_45 : Ref sig .tc := ⟨.hbm, 171, rfl⟩
abbrev main_v112 : Ref sig .tc := ⟨.hbm, 172, rfl⟩
abbrev main_c_46 : Ref sig .tc := ⟨.hbm, 173, rfl⟩
abbrev main_v113 : Ref sig .tc := ⟨.hbm, 174, rfl⟩
abbrev main_c_47 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125_0 : Ref sig .tc := ⟨.hbm, 187, rfl⟩
abbrev main_v125_1 : Ref sig .tc := ⟨.hbm, 188, rfl⟩
abbrev main_v126_0 : Ref sig .tc := ⟨.hbm, 189, rfl⟩
abbrev main_v126_1 : Ref sig .tc := ⟨.hbm, 190, rfl⟩
abbrev main_v126_2 : Ref sig .tc := ⟨.hbm, 191, rfl⟩
abbrev main_c_48 : Ref sig .tc := ⟨.hbm, 192, rfl⟩
abbrev main_call1_v0 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg9_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg9_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc1_sem8_0 : DmaSem sig := 15
abbrev cc1_sem9_0 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem9_1 : DmaSem sig := 30

abbrev nD : Nat := 1
abbrev τ : Topo := Topo.v7x

variable {F : FTy → Type} [FloatOps F]

abbrev grid0 : Pipeline.Grid := ⟨2, ![4, 12], ![false, false]⟩

def k0_off1 (i : grid0.Coords) (c0_i32 : BitVec 32) : Fin 4 → Nat :=
  let c0 : Index := 0#32
  let arg1 : BitVec 32 := BitVec.ofNat 32 (i 1).val
  let c32_i32 : BitVec 32 := 32#32
  let v0 : BitVec 32 := Scalar.muli arg1 c32_i32
  let c1_i32 : BitVec 32 := 1#32
  let v2 : BitVec 32 := Scalar.addi v0 c1_i32
  let v3 : BitVec 32 := Scalar.addi v2 c0_i32
  let v4 : Index := Scalar.indexCast v3
  let c0_0 : Index := 0#32
  let c1 : Index := 1#32
  ![0, v4.toNat, 0, 1]
def k0_off2 (i : grid0.Coords) (c0_i32_7 : BitVec 32) : Fin 4 → Nat :=
  let c0_8 : Index := 0#32
  let arg1 : BitVec 32 := BitVec.ofNat 32 (i 1).val
  let c32_i32 : BitVec 32 := 32#32
  let v0 : BitVec 32 := Scalar.muli arg1 c32_i32
  let c1_i32_6 : BitVec 32 := 1#32
  let v11 : BitVec 32 := Scalar.addi v0 c1_i32_6
  let v12 : BitVec 32 := Scalar.addi v11 c0_i32_7
  let v13 : Index := Scalar.indexCast v12
  let c0_9 : Index := 0#32
  let c2 : Index := 2#32
  ![0, v13.toNat, 0, 2]
def k0_off3 (i : grid0.Coords) (c0_i32_16 : BitVec 32) : Fin 4 → Nat :=
  let c0_17 : Index := 0#32
  let arg1 : BitVec 32 := BitVec.ofNat 32 (i 1).val
  let c32_i32 : BitVec 32 := 32#32
  let v0 : BitVec 32 := Scalar.muli arg1 c32_i32
  let c1_i32_15 : BitVec 32 := 1#32
  let v20 : BitVec 32 := Scalar.addi v0 c1_i32_15
  let v21 : BitVec 32 := Scalar.addi v20 c0_i32_16
  let v22 : Index := Scalar.indexCast v21
  let c0_18 : Index := 0#32
  let c3 : Index := 3#32
  ![0, v22.toNat, 0, 3]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x388x3x388 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x3x3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := ⟨2, ![4, 12], ![false, false]⟩

def k1_off1 (i : grid1.Coords) (c0_i32 : BitVec 32) : Fin 4 → Nat :=
  let c0_10 : Index := 0#32
  let arg1 : BitVec 32 := BitVec.ofNat 32 (i 1).val
  let c32_i32 : BitVec 32 := 32#32
  let v0 : BitVec 32 := Scalar.muli arg1 c32_i32
  let v22 : BitVec 32 := Scalar.addi v0 c0_i32
  let v23 : Index := Scalar.indexCast v22
  let c0_11 : Index := 0#32
  let c0_12 : Index := 0#32
  ![0, v23.toNat, 0, 0]
def k1_off2 (i : grid1.Coords) (c0_i32_18 : BitVec 32) : Fin 4 → Nat :=
  let c0_19 : Index := 0#32
  let arg1 : BitVec 32 := BitVec.ofNat 32 (i 1).val
  let c32_i32 : BitVec 32 := 32#32
  let v0 : BitVec 32 := Scalar.muli arg1 c32_i32
  let v30 : BitVec 32 := Scalar.addi v0 c0_i32_18
  let v31 : Index := Scalar.indexCast v30
  let c0_20 : Index := 0#32
  let c1 : Index := 1#32
  ![0, v31.toNat, 0, 1]
def k1_off3 (i : grid1.Coords) (c0_i32_26 : BitVec 32) : Fin 4 → Nat :=
  let c0_27 : Index := 0#32
  let arg1 : BitVec 32 := BitVec.ofNat 32 (i 1).val
  let c32_i32 : BitVec 32 := 32#32
  let v0 : BitVec 32 := Scalar.muli arg1 c32_i32
  let v38 : BitVec 32 := Scalar.addi v0 c0_i32_26
  let v39 : Index := Scalar.indexCast v38
  let c0_28 : Index := 0#32
  let c2 : Index := 2#32
  ![0, v39.toNat, 0, 2]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x388x3x388 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S3x3x3x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S3x3x64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x16x192x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev grid2 : Pipeline.Grid := ⟨2, ![4, 6], ![false, false]⟩

def cc2_transform_0 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c5_i32 : BitVec 32 := 5#32
  let v1 : BitVec 32 := Scalar.minsi v0 c5_i32
  let c0_i32 : BitVec 32 := 0#32
  let c0_i32_0 : BitVec 32 := 0#32
  let c0_i32_1 : BitVec 32 := 0#32
  ![arg0.toNat, v1.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x32x194x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x32x194x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x32x194x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S3x3x128x12 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x12 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S1x32x192x12 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]
-- ==== KernelIdeal.lean ====
variable {F : FTy → Type} [FloatOps F] [Named F]
def κ : String → Option EReal := fun
  | "npix_inv" => some ((1 / 589824 : ℝ) : EReal)
  | _ => none
-- ==== ReferenceIdeal.lean ====
abbrev S4x3x384x384 : Shape := ⟨4, ![4, 3, 384, 384]⟩
abbrev S64x3x3x3 : Shape := ⟨4, ![64, 3, 3, 3]⟩
abbrev S64 : Shape := ⟨1, ![64]⟩
abbrev S128x64x3x3 : Shape := ⟨4, ![128, 64, 3, 3]⟩
abbrev S128 : Shape := ⟨1, ![128]⟩
abbrev S128x3x4x4 : Shape := ⟨4, ![128, 3, 4, 4]⟩
abbrev S3 : Shape := ⟨1, ![3]⟩
abbrev S_ : Shape := ⟨0, ![]⟩
abbrev S4x3x386x386 : Shape := ⟨4, ![4, 3, 386, 386]⟩
abbrev S4x64x384x384 : Shape := ⟨4, ![4, 64, 384, 384]⟩
abbrev S64x3x1x1 : Shape := ⟨4, ![64, 3, 1, 1]⟩
abbrev S64x3 : Shape := ⟨2, ![64, 3]⟩
abbrev S4x384x384x64 : Shape := ⟨4, ![4, 384, 384, 64]⟩
abbrev S1x64x1x1 : Shape := ⟨4, ![1, 64, 1, 1]⟩
abbrev S4x64x386x386 : Shape := ⟨4, ![4, 64, 386, 386]⟩
abbrev S4x128x384x384 : Shape := ⟨4, ![4, 128, 384, 384]⟩
abbrev S128x64x1x1 : Shape := ⟨4, ![128, 64, 1, 1]⟩
abbrev S128x64 : Shape := ⟨2, ![128, 64]⟩
abbrev S4x384x384x128 : Shape := ⟨4, ![4, 384, 384, 128]⟩
abbrev S1x128x1x1 : Shape := ⟨4, ![1, 128, 1, 1]⟩
abbrev S4x128x192x192 : Shape := ⟨4, ![4, 128, 192, 192]⟩
abbrev S3x128x4x4 : Shape := ⟨4, ![3, 128, 4, 4]⟩
abbrev S4x128x387x387 : Shape := ⟨4, ![4, 128, 387, 387]⟩
abbrev S3x128x1x1 : Shape := ⟨4, ![3, 128, 1, 1]⟩
abbrev S3x128 : Shape := ⟨2, ![3, 128]⟩
abbrev S4x384x384x3 : Shape := ⟨4, ![4, 384, 384, 3]⟩
abbrev S1x3x1x1 : Shape := ⟨4, ![1, 3, 1, 1]⟩

abbrev nBuf : Space → Nat
  | .hbm => 345
  | .vmem => 0
  | .smem => 0
  | _ => 0

abbrev hbmTy0_0 (i : Nat) : BufTy := match i % 128 with
  | 0 => ⟨S4x3x384x384, .f32⟩
  | 1 => ⟨S64x3x3x3, .f32⟩
  | 2 => ⟨S64, .f32⟩
  | 3 => ⟨S64, .f32⟩
  | 4 => ⟨S64, .f32⟩
  | 5 => ⟨S128x64x3x3, .f32⟩
  | 6 => ⟨S128, .f32⟩
  | 7 => ⟨S128, .f32⟩
  | 8 => ⟨S128, .f32⟩
  | 9 => ⟨S128x3x4x4, .f32⟩
  | 10 => ⟨S3, .f32⟩
  | 11 => ⟨S_, .i32⟩
  | 12 => ⟨S_, .f32⟩
  | 13 => ⟨S4x3x386x386, .f32⟩
  | 14 => ⟨S_, .f32⟩
  | 15 => ⟨S4x64x384x384, .f32⟩
  | 16 => ⟨S64x3x1x1, .f32⟩
  | 17 => ⟨S64x3, .f32⟩
  | 18 => ⟨S4x3x384x384, .f32⟩
  | 19 => ⟨S4x384x384x64, .f32⟩
  | 20 => ⟨S4x64x384x384, .f32⟩
  | 21 => ⟨S4x64x384x384, .f32⟩
  | 22 => ⟨S64x3x1x1, .f32⟩
  | 23 => ⟨S64x3, .f32⟩
  | 24 => ⟨S4x3x384x384, .f32⟩
  | 25 => ⟨S4x384x384x64, .f32⟩
  | 26 => ⟨S4x64x384x384, .f32⟩
  | 27 => ⟨S4x64x384x384, .f32⟩
  | 28 => ⟨S64x3x1x1, .f32⟩
  | 29 => ⟨S64x3, .f32⟩
  | 30 => ⟨S4x3x384x384, .f32⟩
  | 31 => ⟨S4x384x384x64, .f32⟩
  | 32 => ⟨S4x64x384x384, .f32⟩
  | 33 => ⟨S4x64x384x384, .f32⟩
  | 34 => ⟨S64x3x1x1, .f32⟩
  | 35 => ⟨S64x3, .f32⟩
  | 36 => ⟨S4x3x384x384, .f32⟩
  | 37 => ⟨S4x384x384x64, .f32⟩
  | 38 => ⟨S4x64x384x384, .f32⟩
  | 39 => ⟨S4x64x384x384, .f32⟩
  | 40 => ⟨S64x3x1x1, .f32⟩
  | 41 => ⟨S64x3, .f32⟩
  | 42 => ⟨S4x3x384x384, .f32⟩
  | 43 => ⟨S4x384x384x64, .f32⟩
  | 44 => ⟨S4x64x384x384, .f32⟩
  | 45 => ⟨S4x64x384x384, .f32⟩
  | 46 => ⟨S64x3x1x1, .f32⟩
  | 47 => ⟨S64x3, .f32⟩
  | 48 => ⟨S4x3x384x384, .f32⟩
  | 49 => ⟨S4x384x384x64, .f32⟩
  | 50 => ⟨S4x64x384x384, .f32⟩
  | 51 => ⟨S4x64x384x384, .f32⟩
  | 52 => ⟨S64x3x1x1, .f32⟩
  | 53 => ⟨S64x3, .f32⟩
  | 54 => ⟨S4x3x384x384, .f32⟩
  | 55 => ⟨S4x384x384x64, .f32⟩
  | 56 => ⟨S4x64x384x384, .f32⟩
  | 57 => ⟨S4x64x384x384, .f32⟩
  | 58 => ⟨S64x3x1x1, .f32⟩
  | 59 => ⟨S64x3, .f32⟩
  | 60 => ⟨S4x3x384x384, .f32⟩
  | 61 => ⟨S4x384x384x64, .f32⟩
  | 62 => ⟨S4x64x384x384, .f32⟩
  | 63 => ⟨S4x64x384x384, .f32⟩
  | 64 => ⟨S64x3x1x1, .f32⟩
  | 65 => ⟨S64x3, .f32⟩
  | 66 => ⟨S4x3x384x384, .f32⟩
  | 67 => ⟨S4x384x384x64, .f32⟩
  | 68 => ⟨S4x64x384x384, .f32⟩
  | 69 => ⟨S4x64x384x384, .f32⟩
  | 70 => ⟨S1x64x1x1, .f32⟩
  | 71 => ⟨S4x64x384x384, .f32⟩
  | 72 => ⟨S4x64x384x384, .f32⟩
  | 73 => ⟨S_, .f32⟩
  | 74 => ⟨S64, .f32⟩
  | 75 => ⟨S1x64x1x1, .f32⟩
  | 76 => ⟨S_, .f32⟩
  | 77 => ⟨S1x64x1x1, .f32⟩
  | 78 => ⟨S1x64x1x1, .f32⟩
  | 79 => ⟨S_, .i32⟩
  | 80 => ⟨S_, .f32⟩
  | 81 => ⟨S64, .f32⟩
  | 82 => ⟨S1x64x1x1, .f32⟩
  | 83 => ⟨S_, .f32⟩
  | 84 => ⟨S1x64x1x1, .f32⟩
  | 85 => ⟨S1x64x1x1, .f32⟩
  | 86 => ⟨S4x64x384x384, .f32⟩
  | 87 => ⟨S4x64x384x384, .f32⟩
  | 88 => ⟨S4x64x384x384, .f32⟩
  | 89 => ⟨S_, .f32⟩
  | 90 => ⟨S_, .f32⟩
  | 91 => ⟨S_, .f32⟩
  | 92 => ⟨S_, .f32⟩
  | 93 => ⟨S64, .f32⟩
  | 94 => ⟨S1x64x1x1, .f32⟩
  | 95 => ⟨S1x64x1x1, .f32⟩
  | 96 => ⟨S1x64x1x1, .f32⟩
  | 97 => ⟨S_, .f32⟩
  | 98 => ⟨S_, .i1⟩
  | 99 => ⟨S_, .f32⟩
  | 100 => ⟨S_, .f32⟩
  | 101 => ⟨S1x64x1x1, .f32⟩
  | 102 => ⟨S1x64x1x1, .f32⟩
  | 103 => ⟨S4x64x384x384, .f32⟩
  | 104 => ⟨S4x64x384x384, .f32⟩
  | 105 => ⟨S_, .f32⟩
  | 106 => ⟨S1x64x1x1, .f32⟩
  | 107 => ⟨S1x64x1x1, .f32⟩
  | 108 => ⟨S1x64x1x1, .f32⟩
  | 109 => ⟨S4x64x384x384, .f32⟩
  | 110 => ⟨S4x64x384x384, .f32⟩
  | 111 => ⟨S1x64x1x1, .f32⟩
  | 112 => ⟨S4x64x384x384, .f32⟩
  | 113 => ⟨S4x64x384x384, .f32⟩
  | 114 => ⟨S1x64x1x1, .f32⟩
  | 115 => ⟨S4x64x384x384, .f32⟩
  | 116 => ⟨S4x64x384x384, .f32⟩
  | 117 => ⟨S_, .f32⟩
  | 118 => ⟨S4x64x384x384, .f32⟩
  | 119 => ⟨S4x64x384x384, .f32⟩
  | 120 => ⟨S_, .i32⟩
  | 121 => ⟨S_, .f32⟩
  | 122 => ⟨S4x64x386x386, .f32⟩
  | 123 => ⟨S_, .f32⟩
  | 124 => ⟨S4x128x384x384, .f32⟩
  | 125 => ⟨S128x64x1x1, .f32⟩
  | 126 => ⟨S128x64, .f32⟩
  | 127 => ⟨S4x64x384x384, .f32⟩
  | _ => ⟨S4x3x384x384, .f32⟩

abbrev hbmTy0_1 (i : Nat) : BufTy := match i % 128 with
  | 0 => ⟨S4x384x384x128, .f32⟩
  | 1 => ⟨S4x128x384x384, .f32⟩
  | 2 => ⟨S4x128x384x384, .f32⟩
  | 3 => ⟨S128x64x1x1, .f32⟩
  | 4 => ⟨S128x64, .f32⟩
  | 5 => ⟨S4x64x384x384, .f32⟩
  | 6 => ⟨S4x384x384x128, .f32⟩
  | 7 => ⟨S4x128x384x384, .f32⟩
  | 8 => ⟨S4x128x384x384, .f32⟩
  | 9 => ⟨S128x64x1x1, .f32⟩
  | 10 => ⟨S128x64, .f32⟩
  | 11 => ⟨S4x64x384x384, .f32⟩
  | 12 => ⟨S4x384x384x128, .f32⟩
  | 13 => ⟨S4x128x384x384, .f32⟩
  | 14 => ⟨S4x128x384x384, .f32⟩
  | 15 => ⟨S128x64x1x1, .f32⟩
  | 16 => ⟨S128x64, .f32⟩
  | 17 => ⟨S4x64x384x384, .f32⟩
  | 18 => ⟨S4x384x384x128, .f32⟩
  | 19 => ⟨S4x128x384x384, .f32⟩
  | 20 => ⟨S4x128x384x384, .f32⟩
  | 21 => ⟨S128x64x1x1, .f32⟩
  | 22 => ⟨S128x64, .f32⟩
  | 23 => ⟨S4x64x384x384, .f32⟩
  | 24 => ⟨S4x384x384x128, .f32⟩
  | 25 => ⟨S4x128x384x384, .f32⟩
  | 26 => ⟨S4x128x384x384, .f32⟩
  | 27 => ⟨S128x64x1x1, .f32⟩
  | 28 => ⟨S128x64, .f32⟩
  | 29 => ⟨S4x64x384x384, .f32⟩
  | 30 => ⟨S4x384x384x128, .f32⟩
  | 31 => ⟨S4x128x384x384, .f32⟩
  | 32 => ⟨S4x128x384x384, .f32⟩
  | 33 => ⟨S128x64x1x1, .f32⟩
  | 34 => ⟨S128x64, .f32⟩
  | 35 => ⟨S4x64x384x384, .f32⟩
  | 36 => ⟨S4x384x384x128, .f32⟩
  | 37 => ⟨S4x128x384x384, .f32⟩
  | 38 => ⟨S4x128x384x384, .f32⟩
  | 39 => ⟨S128x64x1x1, .f32⟩
  | 40 => ⟨S128x64, .f32⟩
  | 41 => ⟨S4x64x384x384, .f32⟩
  | 42 => ⟨S4x384x384x128, .f32⟩
  | 43 => ⟨S4x128x384x384, .f32⟩
  | 44 => ⟨S4x128x384x384, .f32⟩
  | 45 => ⟨S128x64x1x1, .f32⟩
  | 46 => ⟨S128x64, .f32⟩
  | 47 => ⟨S4x64x384x384, .f32⟩
  | 48 => ⟨S4x384x384x128, .f32⟩
  | 49 => ⟨S4x128x384x384, .f32⟩
  | 50 => ⟨S4x128x384x384, .f32⟩
  | 51 => ⟨S1x128x1x1, .f32⟩
  | 52 => ⟨S4x128x384x384, .f32⟩
  | 53 => ⟨S4x128x384x384, .f32⟩
  | 54 => ⟨S_, .f32⟩
  | 55 => ⟨S128, .f32⟩
  | 56 => ⟨S1x128x1x1, .f32⟩
  | 57 => ⟨S_, .f32⟩
  | 58 => ⟨S1x128x1x1, .f32⟩
  | 59 => ⟨S1x128x1x1, .f32⟩
  | 60 => ⟨S_, .i32⟩
  | 61 => ⟨S_, .f32⟩
  | 62 => ⟨S128, .f32⟩
  | 63 => ⟨S1x128x1x1, .f32⟩
  | 64 => ⟨S_, .f32⟩
  | 65 => ⟨S1x128x1x1, .f32⟩
  | 66 => ⟨S1x128x1x1, .f32⟩
  | 67 => ⟨S4x128x384x384, .f32⟩
  | 68 => ⟨S4x128x384x384, .f32⟩
  | 69 => ⟨S4x128x384x384, .f32⟩
  | 70 => ⟨S_, .f32⟩
  | 71 => ⟨S_, .f32⟩
  | 72 => ⟨S_, .f32⟩
  | 73 => ⟨S_, .f32⟩
  | 74 => ⟨S128, .f32⟩
  | 75 => ⟨S1x128x1x1, .f32⟩
  | 76 => ⟨S1x128x1x1, .f32⟩
  | 77 => ⟨S1x128x1x1, .f32⟩
  | 78 => ⟨S_, .f32⟩
  | 79 => ⟨S_, .i1⟩
  | 80 => ⟨S_, .f32⟩
  | 81 => ⟨S_, .f32⟩
  | 82 => ⟨S1x128x1x1, .f32⟩
  | 83 => ⟨S1x128x1x1, .f32⟩
  | 84 => ⟨S4x128x384x384, .f32⟩
  | 85 => ⟨S4x128x384x384, .f32⟩
  | 86 => ⟨S_, .f32⟩
  | 87 => ⟨S1x128x1x1, .f32⟩
  | 88 => ⟨S1x128x1x1, .f32⟩
  | 89 => ⟨S1x128x1x1, .f32⟩
  | 90 => ⟨S4x128x384x384, .f32⟩
  | 91 => ⟨S4x128x384x384, .f32⟩
  | 92 => ⟨S1x128x1x1, .f32⟩
  | 93 => ⟨S4x128x384x384, .f32⟩
  | 94 => ⟨S4x128x384x384, .f32⟩
  | 95 => ⟨S1x128x1x1, .f32⟩
  | 96 => ⟨S4x128x384x384, .f32⟩
  | 97 => ⟨S4x128x384x384, .f32⟩
  | 98 => ⟨S_, .f32⟩
  | 99 => ⟨S4x128x384x384, .f32⟩
  | 100 => ⟨S4x128x384x384, .f32⟩
  | 101 => ⟨S_, .f32⟩
  | 102 => ⟨S_, .f32⟩
  | 103 => ⟨S4x128x192x192, .f32⟩
  | 104 => ⟨S128x3x4x4, .f32⟩
  | 105 => ⟨S3x128x4x4, .f32⟩
  | 106 => ⟨S_, .f32⟩
  | 107 => ⟨S4x128x387x387, .f32⟩
  | 108 => ⟨S_, .f32⟩
  | 109 => ⟨S4x3x384x384, .f32⟩
  | 110 => ⟨S3x128x1x1, .f32⟩
  | 111 => ⟨S3x128, .f32⟩
  | 112 => ⟨S4x128x384x384, .f32⟩
  | 113 => ⟨S4x384x384x3, .f32⟩
  | 114 => ⟨S4x3x384x384, .f32⟩
  | 115 => ⟨S4x3x384x384, .f32⟩
  | 116 => ⟨S3x128x1x1, .f32⟩
  | 117 => ⟨S3x128, .f32⟩
  | 118 => ⟨S4x128x384x384, .f32⟩
  | 119 => ⟨S4x384x384x3, .f32⟩
  | 120 => ⟨S4x3x384x384, .f32⟩
  | 121 => ⟨S4x3x384x384, .f32⟩
  | 122 => ⟨S3x128x1x1, .f32⟩
  | 123 => ⟨S3x128, .f32⟩
  | 124 => ⟨S4x128x384x384, .f32⟩
  | 125 => ⟨S4x384x384x3, .f32⟩
  | 126 => ⟨S4x3x384x384, .f32⟩
  | 127 => ⟨S4x3x384x384, .f32⟩
  | _ => ⟨S4x3x384x384, .f32⟩

abbrev hbmTy0_2 (i : Nat) : BufTy := match i % 128 with
  | 0 => ⟨S3x128x1x1, .f32⟩
  | 1 => ⟨S3x128, .f32⟩
  | 2 => ⟨S4x128x384x384, .f32⟩
  | 3 => ⟨S4x384x384x3, .f32⟩
  | 4 => ⟨S4x3x384x384, .f32⟩
  | 5 => ⟨S4x3x384x384, .f32⟩
  | 6 => ⟨S3x128x1x1, .f32⟩
  | 7 => ⟨S3x128, .f32⟩
  | 8 => ⟨S4x128x384x384, .f32⟩
  | 9 => ⟨S4x384x384x3, .f32⟩
  | 10 => ⟨S4x3x384x384, .f32⟩
  | 11 => ⟨S4x3x384x384, .f32⟩
  | 12 => ⟨S3x128x1x1, .f32⟩
  | 13 => ⟨S3x128, .f32⟩
  | 14 => ⟨S4x128x384x384, .f32⟩
  | 15 => ⟨S4x384x384x3, .f32⟩
  | 16 => ⟨S4x3x384x384, .f32⟩
  | 17 => ⟨S4x3x384x384, .f32⟩
  | 18 => ⟨S3x128x1x1, .f32⟩
  | 19 => ⟨S3x128, .f32⟩
  | 20 => ⟨S4x128x384x384, .f32⟩
  | 21 => ⟨S4x384x384x3, .f32⟩
  | 22 => ⟨S4x3x384x384, .f32⟩
  | 23 => ⟨S4x3x384x384, .f32⟩
  | 24 => ⟨S3x128x1x1, .f32⟩
  | 25 => ⟨S3x128, .f32⟩
  | 26 => ⟨S4x128x384x384, .f32⟩
  | 27 => ⟨S4x384x384x3, .f32⟩
  | 28 => ⟨S4x3x384x384, .f32⟩
  | 29 => ⟨S4x3x384x384, .f32⟩
  | 30 => ⟨S3x128x1x1, .f32⟩
  | 31 => ⟨S3x128, .f32⟩
  | 32 => ⟨S4x128x384x384, .f32⟩
  | 33 => ⟨S4x384x384x3, .f32⟩
  | 34 => ⟨S4x3x384x384, .f32⟩
  | 35 => ⟨S4x3x384x384, .f32⟩
  | 36 => ⟨S3x128x1x1, .f32⟩
  | 37 => ⟨S3x128, .f32⟩
  | 38 => ⟨S4x128x384x384, .f32⟩
  | 39 => ⟨S4x384x384x3, .f32⟩
  | 40 => ⟨S4x3x384x384, .f32⟩
  | 41 => ⟨S4x3x384x384, .f32⟩
  | 42 => ⟨S3x128x1x1, .f32⟩
  | 43 => ⟨S3x128, .f32⟩
  | 44 => ⟨S4x128x384x384, .f32⟩
  | 45 => ⟨S4x384x384x3, .f32⟩
  | 46 => ⟨S4x3x384x384, .f32⟩
  | 47 => ⟨S4x3x384x384, .f32⟩
  | 48 => ⟨S3x128x1x1, .f32⟩
  | 49 => ⟨S3x128, .f32⟩
  | 50 => ⟨S4x128x384x384, .f32⟩
  | 51 => ⟨S4x384x384x3, .f32⟩
  | 52 => ⟨S4x3x384x384, .f32⟩
  | 53 => ⟨S4x3x384x384, .f32⟩
  | 54 => ⟨S3x128x1x1, .f32⟩
  | 55 => ⟨S3x128, .f32⟩
  | 56 => ⟨S4x128x384x384, .f32⟩
  | 57 => ⟨S4x384x384x3, .f32⟩
  | 58 => ⟨S4x3x384x384, .f32⟩
  | 59 => ⟨S4x3x384x384, .f32⟩
  | 60 => ⟨S3x128x1x1, .f32⟩
  | 61 => ⟨S3x128, .f32⟩
  | 62 => ⟨S4x128x384x384, .f32⟩
  | 63 => ⟨S4x384x384x3, .f32⟩
  | 64 => ⟨S4x3x384x384, .f32⟩
  | 65 => ⟨S4x3x384x384, .f32⟩
  | 66 => ⟨S3x128x1x1, .f32⟩
  | 67 => ⟨S3x128, .f32⟩
  | 68 => ⟨S4x128x384x384, .f32⟩
  | 69 => ⟨S4x384x384x3, .f32⟩
  | 70 => ⟨S4x3x384x384, .f32⟩
  | 71 => ⟨S4x3x384x384, .f32⟩
  | 72 => ⟨S3x128x1x1, .f32⟩
  | 73 => ⟨S3x128, .f32⟩
  | 74 => ⟨S4x128x384x384, .f32⟩
  | 75 => ⟨S4x384x384x3, .f32⟩
  | 76 => ⟨S4x3x384x384, .f32⟩
  | 77 => ⟨S4x3x384x384, .f32⟩
  | 78 => ⟨S1x3x1x1, .f32⟩
  | 79 => ⟨S4x3x384x384, .f32⟩
  | 80 => ⟨S4x3x384x384, .f32⟩
  | 81 => ⟨S4x3x384x384, .f32⟩
  | 82 => ⟨S4x3x384x384, .f32⟩
  | 83 => ⟨S_, .f32⟩
  | 84 => ⟨S4x3x384x384, .f32⟩
  | 85 => ⟨S4x3x384x384, .f32⟩
  | 86 => ⟨S_, .f32⟩
  | 87 => ⟨S4x3x384x384, .f32⟩
  | 88 => ⟨S4x3x384x384, .f32⟩
  | _ => ⟨S4x3x384x384, .f32⟩

abbrev hbmTy (i : Nat) : BufTy := match i / 128 with
  | 0 => hbmTy0_0 i
  | 1 => hbmTy0_1 i
  | 2 => hbmTy0_2 i
  | _ => ⟨S4x3x384x384, .f32⟩

abbrev bufTy : (tb : Table) → Fin (tcTables nBuf tb) → BufTy
  | .hbm, ⟨i, _⟩ => hbmTy i
  | _, _ => ⟨S4x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_0 : Ref sig .tc := ⟨.hbm, 73, rfl⟩
abbrev main_v59 : Ref sig .tc := ⟨.hbm, 74, rfl⟩
abbrev main_v60 : Ref sig .tc := ⟨.hbm, 75, rfl⟩
abbrev main_cst_1 : Ref sig .tc := ⟨.hbm, 76, rfl⟩
abbrev main_v61 : Ref sig .tc := ⟨.hbm, 77, rfl⟩
abbrev main_v62 : Ref sig .tc := ⟨.hbm, 78, rfl⟩
abbrev main_c_2 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_v12 : Ref sig .tc := ⟨.hbm, 96, rfl⟩
abbrev main_call1_cst_3 : Ref sig .tc := ⟨.hbm, 97, rfl⟩
abbrev main_call1_v13 : Ref sig .tc := ⟨.hbm, 98, rfl⟩
abbrev main_call1_cst_4 : Ref sig .tc := ⟨.hbm, 99, rfl⟩
abbrev main_call1_call0_v0 : Ref sig .tc := ⟨.hbm, 100, rfl⟩
abbrev main_call1_call0_v1 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_3 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_call2_cst : Ref sig .tc := ⟨.hbm, 117, rfl⟩
abbrev main_call2_v0 : Ref sig .tc := ⟨.hbm, 118, rfl⟩
abbrev main_v77 : Ref sig .tc := ⟨.hbm, 119, rfl⟩
abbrev main_c_4 : Ref sig .tc := ⟨.hbm, 120, rfl⟩
abbrev main_call3_v0 : Ref sig .tc := ⟨.hbm, 121, rfl⟩
abbrev main_v78 : Ref sig .tc := ⟨.hbm, 122, rfl⟩
abbrev main_cst_5 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_6 : Ref sig .tc := ⟨.hbm, 182, rfl⟩
abbrev main_v137 : Ref sig .tc := ⟨.hbm, 183, rfl⟩
abbrev main_v138 : Ref sig .tc := ⟨.hbm, 184, rfl⟩
abbrev main_cst_7 : Ref sig .tc := ⟨.hbm, 185, rfl⟩
abbrev main_v139 : Ref sig .tc := ⟨.hbm, 186, rfl⟩
abbrev main_v140 : Ref sig .tc := ⟨.hbm, 187, rfl⟩
abbrev main_c_8 : Ref sig .tc := ⟨.hbm, 188, rfl⟩
abbrev main_call4_cst : Ref sig .tc := ⟨.hbm, 189, rfl⟩
abbrev main_call4_v0 : Ref sig .tc := ⟨.hbm, 190, rfl⟩
abbrev main_call4_v1 : Ref sig .tc := ⟨.hbm, 191, rfl⟩
abbrev main_call4_cst_0 : Ref sig .tc := ⟨.hbm, 192, rfl⟩
abbrev main_call4_v2 : Ref sig .tc := ⟨.hbm, 193, rfl⟩
abbrev main_call4_v3 : Ref sig .tc := ⟨.hbm, 194, rfl⟩
abbrev main_call4_v4 : Ref sig .tc := ⟨.hbm, 195, rfl⟩
abbrev main_call4_v5 : Ref sig .tc := ⟨.hbm, 196, rfl⟩
abbrev main_call4_v6 : Ref sig .tc := ⟨.hbm, 197, rfl⟩
abbrev main_call4_v7 : Ref sig .tc := ⟨.hbm, 198, rfl⟩
abbrev main_call4_cst_1 : Ref sig .tc := ⟨.hbm, 199, rfl⟩
abbrev main_call4_v8 : Ref sig .tc := ⟨.hbm, 200, rfl⟩
abbrev main_call4_cst_2 : Ref sig .tc := ⟨.hbm, 201, rfl⟩
abbrev main_call4_v9 : Ref sig .tc := ⟨.hbm, 202, rfl⟩
abbrev main_call4_v10 : Ref sig .tc := ⟨.hbm, 203, rfl⟩
abbrev main_call4_v11 : Ref sig .tc := ⟨.hbm, 204, rfl⟩
abbrev main_call4_v12 : Ref sig .tc := ⟨.hbm, 205, rfl⟩
abbrev main_call4_cst_3 : Ref sig .tc := ⟨.hbm, 206, rfl⟩
abbrev main_call4_v13 : Ref sig .tc := ⟨.hbm, 207, rfl⟩
abbrev main_call4_cst_4 : Ref sig .tc := ⟨.hbm, 208, rfl⟩
abbrev main_call4_call0_v0 : Ref sig .tc := ⟨.hbm, 209, rfl⟩
abbrev main_call4_call0_v1 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_cst_9 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_call5_cst : Ref sig .tc := ⟨.hbm, 226, rfl⟩
abbrev main_call5_v0 : Ref sig .tc := ⟨.hbm, 227, rfl⟩
abbrev main_v155 : Ref sig .tc := ⟨.hbm, 228, rfl⟩
abbrev main_cst_10 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_cst_11 : Ref sig .tc := ⟨.hbm, 234, rfl⟩
abbrev main_v160 : Ref sig .tc := ⟨.hbm, 235, rfl⟩
abbrev main_cst_12 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_cst_13 : Ref sig .tc := ⟨.hbm, 339, rfl⟩
abbrev main_v263 : Ref sig .tc := ⟨.hbm, 340, rfl⟩
abbrev main_v264 : Ref sig .tc := ⟨.hbm, 341, rfl⟩
abbrev main_cst_14 : Ref sig .tc := ⟨.hbm, 342, rfl⟩
abbrev main_v265 : Ref sig .tc := ⟨.hbm, 343, rfl⟩
abbrev main_v266 : Ref sig .tc := ⟨.hbm, 344, rfl⟩

abbrev nD : Nat := 1
abbrev τ : Topo := Topo.v7x

variable {F : FTy → Type} [FloatOps F]
-- ==== Proof.Frames.lean ====
/- The claims about the runs alone: each of the three programs runs to completion, leaves its arguments as they were and
   every semaphore counter at zero; and the named constant is the fraction that the kernel's literal rounds. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.SL.Sem

/-- The kernel as it is compiled runs and changes none of its arguments. -/
theorem frame_kernel : Cert.quiescent_Kernel := fun m ρ _ => Cert.Kernel.Gen.frame m ρ

/-- The kernel over the extended reals runs and changes none of its arguments. -/
theorem frame_kernelIdeal : Cert.quiescent_KernelIdeal := fun m ρ _ => Cert.KernelIdeal.Gen.frame m ρ

/-- The reference runs and changes none of its arguments; it has no semaphore. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The literal named `npix_inv` reads 1 / 589824 in the idealized kernel. -/
theorem preserves_npix : Cert.preserves_Kernel_KernelIdeal :=
  IdealRules.named_const.statement Cert.KernelIdeal.κ "npix_inv" .f32 0x35E38E39#32 _ rfl

end Cert.Proof

end
-- ==== Proof.Spec.lean ====
/- The network's functions written once, over plain functions of indices: a three-by-three correlation at a position of a
   padded image, the sums over all pixels, the two normalisations as the kernel folds them into a scale and a shift, the
   two-by-two maximum, and the transposed convolution's nine taps. Positions are natural numbers, so that a padded image
   is a function defined everywhere; channels are elements of `Fin`. -/
module

public import Idealize.ShloMosaic.PureOps.Ideal
public import Idealize.ShloMosaic.PureOps.Ideal.Laws

@[expose] public section

noncomputable section

namespace Cert.Net

open Idealize.ShloMosaic

/-- An `a` by `b` image surrounded by zeros, its element `(0, 0)` at position `(k, k)`. -/
def padded {a b : ℕ} (k : ℕ) (f : Fin a → Fin b → EReal) (p q : ℕ) : EReal :=
  if h : (k ≤ p ∧ p - k < a) ∧ (k ≤ q ∧ q - k < b) then f ⟨p - k, h.1.2⟩ ⟨q - k, h.2.2⟩ else 0

/-- The three-by-three correlation of the images `X i` with the weights `w i`, summed over the channels `i`, its window's
    upper left corner at `(p, q)`. -/
def conv {m : ℕ} (X : Fin m → ℕ → ℕ → EReal) (w : Fin m → Fin 3 → Fin 3 → EReal) (p q : ℕ) : EReal :=
  ∑ dy : Fin 3, ∑ dx : Fin 3, ∑ i : Fin m, X i (p + dy) (q + dx) * w i dy dx

/-- The nine taps written out, in the order of the window's rows. -/
theorem conv_nine {m : ℕ} (X : Fin m → ℕ → ℕ → EReal) (w : Fin m → Fin 3 → Fin 3 → EReal) (p q : ℕ) :
    conv X w p q
      = ∑ i, X i p q * w i 0 0 + ∑ i, X i p (q + 1) * w i 0 1 + ∑ i, X i p (q + 2) * w i 0 2
        + ∑ i, X i (p + 1) q * w i 1 0 + ∑ i, X i (p + 1) (q + 1) * w i 1 1 + ∑ i, X i (p + 1) (q + 2) * w i 1 2
        + ∑ i, X i (p + 2) q * w i 2 0 + ∑ i, X i (p + 2) (q + 1) * w i 2 1 + ∑ i, X i (p + 2) (q + 2) * w i 2 2 := by
  unfold conv
  rw [Fin.sum_univ_three, Fin.sum_univ_three, Fin.sum_univ_three, Fin.sum_univ_three]
  simp only [Fin.val_zero, Fin.val_one, Fin.val_two, add_zero, ← add_assoc]

/-- A function of the image number and the position summed over the four images' 384 by 384 pixels. -/
def total (f : Fin 4 → ℕ → ℕ → EReal) : EReal := ∑ n : Fin 4, ∑ h : Fin 384, ∑ w : Fin 384, f n h w

/-- The reciprocal of the number of pixels. -/
def invPix : EReal := ((1 / 589824 : ℝ) : EReal)

/-- The small number under both square roots. -/
def eps : EReal := Ideal.ofBits .f32 0x3727C5AC#32

/-- The factor a normalisation multiplies by: `g` over the square root of the variance, from the sum `s` and the sum of
    squares `q`. -/
def scale (s q g : EReal) : EReal := Ideal.rsqrt (q * invPix - s * invPix * (s * invPix) + eps) * g

/-- What a normalisation adds. -/
def shift (s q g be : EReal) : EReal := be - s * invPix * scale s q g

/-- A normalised value with its negative part cut off. -/
def act (s q g be y : EReal) : EReal := max (y * scale s q g + shift s q g be) 0

/-- `f` inside the `a` by `b` image whose element `(0, 0)` is at position `(1, 1)`, zero outside. -/
def inside (a b : ℕ) (f : ℕ → ℕ → EReal) (p q : ℕ) : EReal :=
  if (1 ≤ p ∧ p ≤ a) ∧ (1 ≤ q ∧ q ≤ b) then f p q else 0

/-- The maximum of `f` over the two-by-two square `(m, k)`. -/
def maxOfFour (f : ℕ → ℕ → EReal) (m k : ℕ) : EReal :=
  max (max (f (2 * m) (2 * k)) (f (2 * m) (2 * k + 1))) (max (f (2 * m + 1) (2 * k)) (f (2 * m + 1) (2 * k + 1)))

/-- The four-tap weights that output row (or column) parity `a` meets at the three neighbouring input rows (or columns)
    `r`: the tap's index, where there is one. -/
def tap (a : Fin 2) (r : Fin 3) : Option (Fin 4) :=
  match a, r with
  | 0, 0 => some 3
  | 0, 1 => some 1
  | 1, 1 => some 2
  | 1, 2 => some 0
  | _, _ => none

/-- The nine-tap weights of the transposed convolution at the output parity `(a, b)`. -/
def deconvW (wt : Fin 4 → Fin 4 → EReal) (a b : Fin 2) (ry rx : Fin 3) : EReal :=
  match tap a ry, tap b rx with
  | some ky, some kx => wt ky kx
  | _, _ => 0

section Net

variable (x : Fin 4 → Fin 3 → Fin 384 → Fin 384 → EReal)
  (w1 : Fin 64 → Fin 3 → Fin 3 → Fin 3 → EReal) (g1 be1 : Fin 64 → EReal)
  (w2 : Fin 128 → Fin 64 → Fin 3 → Fin 3 → EReal) (g2 be2 : Fin 128 → EReal)
  (wt : Fin 128 → Fin 3 → Fin 4 → Fin 4 → EReal) (bt : Fin 3 → EReal)

/-- The first convolution, over the image padded by two: the pixel `(h, w)` is at `(h + 1, w + 1)`. -/
def c1 (n : Fin 4) (o : Fin 64) (p q : ℕ) : EReal := conv (fun i => padded 2 (x n i)) (w1 o) p q

/-- The sum of the first convolution over all pixels. -/
def s1 (o : Fin 64) : EReal := total fun n h w => c1 x w1 n o (h + 1) (w + 1)

/-- The sum of its squares. -/
def q1 (o : Fin 64) : EReal := total fun n h w => c1 x w1 n o (h + 1) (w + 1) * c1 x w1 n o (h + 1) (w + 1)

/-- The first layer's output padded by one. -/
def h1 (n : Fin 4) (o : Fin 64) : ℕ → ℕ → EReal :=
  inside 384 384 fun p q => act (s1 x w1 o) (q1 x w1 o) (g1 o) (be1 o) (c1 x w1 n o p q)

/-- The second convolution. -/
def c2 (n : Fin 4) (o : Fin 128) (p q : ℕ) : EReal := conv (h1 x w1 g1 be1 n) (w2 o) p q

/-- The sum of the second convolution over all pixels. -/
def s2 (o : Fin 128) : EReal := total fun n h w => c2 x w1 g1 be1 w2 n o h w

/-- The sum of its squares. -/
def q2 (o : Fin 128) : EReal := total fun n h w => c2 x w1 g1 be1 w2 n o h w * c2 x w1 g1 be1 w2 n o h w

/-- The second convolution's two-by-two maxima. -/
def pooled (n : Fin 4) (o : Fin 128) (m k : ℕ) : EReal := maxOfFour (c2 x w1 g1 be1 w2 n o) m k

/-- The second layer's output padded by one. -/
def h2 (n : Fin 4) (o : Fin 128) : ℕ → ℕ → EReal :=
  inside 192 192 fun p q => act (s2 x w1 g1 be1 w2 o) (q2 x w1 g1 be1 w2 o) (g2 o) (be2 o) (pooled x w1 g1 be1 w2 n o (p - 1) (q - 1))

/-- The result at pixel `(2 m + a, 2 k + b)` of channel `co`. -/
def out (n : Fin 4) (co : Fin 3) (m k : ℕ) (a b : Fin 2) : EReal :=
  Ideal.logistic (conv (h2 x w1 g1 be1 w2 g2 be2 n) (fun c => deconvW (wt c co) a b) m k + bt co)

end Net

end Cert.Net

end
-- ==== Proof.Reduce.lean ====
/- Reductions read at an index: the sum over the two leading axes of a rank three array, the host's sum over all but the
   second axis of a rank four array, and a sum over a grid's points and rows regrouped by image and row. -/
module

public import Idealize.ShloMosaic.Lib.Pointwise

@[expose] public section

noncomputable section

namespace Cert.Net

open Idealize.ShloMosaic

/-- Summing the axes 0 and 1 of a rank three array. -/
theorem reduceAdd_leading {a b d : ℕ} (h : (⟨3, ![a, b, d]⟩ : Shape).Reduces [0, 1] ⟨1, ![d]⟩)
    (v : (⟨3, ![a, b, d]⟩ : Shape).Idx → EReal) (o : Fin d) :
    Ideal.reduceAdd h v (ix1 o) = ∑ r : Fin a, ∑ w : Fin b, v (ix3 r w o) := by
  unfold Ideal.reduceAdd
  refine (Finset.sum_filter_eq_sum_of_fiber _ (fun k : Fin a × Fin b => (ix3 k.1 k.2 o : (⟨3, ![a, b, d]⟩ : Shape).Idx))
    (fun _ _ e => Prod.ext (congrFun e 0) (congrFun e 1)) (fun i => ?_) v).trans ?_
  · constructor
    · intro e
      refine ⟨(i 0, i 1), ?_⟩
      funext k
      apply Fin.ext
      match k with
      | ⟨0, _⟩ => rfl
      | ⟨1, _⟩ => rfl
      | ⟨2, _⟩ => exact (congrArg Fin.val (congrFun e ⟨0, Nat.one_pos⟩)).symm
    · rintro ⟨k, rfl⟩
      funext k
      apply Fin.ext
      match k with
      | ⟨0, _⟩ => rfl
  · simp only [Fintype.sum_prod_type]

/-- The host's sum of the axes 0, 2 and 3 of a rank four array. -/
theorem hostReduceAdd_channels {a b d e : ℕ} (h : (⟨4, ![a, b, d, e]⟩ : Shape).ReducesTo [0, 2, 3] ⟨1, ![b]⟩)
    (v : (⟨4, ![a, b, d, e]⟩ : Shape).Idx → EReal) (init : EReal) (o : Fin b) :
    Ideal.hostReduceAdd h v init (ix1 o) = init + ∑ n : Fin a, ∑ p : Fin d, ∑ q : Fin e, v (ix4 n o p q) := by
  unfold Ideal.hostReduceAdd
  refine congrArg (init + ·) ?_
  refine (Finset.sum_filter_eq_sum_of_fiber _
    (fun k : Fin a × Fin d × Fin e => (ix4 k.1 o k.2.1 k.2.2 : (⟨4, ![a, b, d, e]⟩ : Shape).Idx))
    (fun _ _ e => Prod.ext (congrFun e 0) (Prod.ext (congrFun e 2) (congrFun e 3))) (fun i => ?_) v).trans ?_
  · constructor
    · intro e
      refine ⟨(i 0, i 2, i 3), ?_⟩
      funext k
      apply Fin.ext
      match k with
      | ⟨0, _⟩ => rfl
      | ⟨1, _⟩ => exact (congrArg Fin.val (congrFun e ⟨0, Nat.one_pos⟩)).symm
      | ⟨2, _⟩ => rfl
      | ⟨3, _⟩ => rfl
    · rintro ⟨k, rfl⟩
      funext k
      apply Fin.ext
      match k with
      | ⟨0, _⟩ => rfl
  · simp only [Fintype.sum_prod_type]

/-- The maximum over the axes 1 and 3, each of length two, of a rank five array. -/
theorem foldMax_squares {a b d : ℕ} (h : (⟨5, ![a, 2, b, 2, d]⟩ : Shape).Reduces [1, 3] ⟨3, ![a, b, d]⟩)
    (v : (⟨5, ![a, 2, b, 2, d]⟩ : Shape).Idx → EReal) (m : Fin a) (k : Fin b) (o : Fin d) :
    (Finset.univ.filter fun i => h.drop i = ix3 m k o).fold max ⊥ v
      = max (max (v (ix5 m 0 k 0 o)) (v (ix5 m 0 k 1 o))) (max (v (ix5 m 1 k 0 o)) (v (ix5 m 1 k 1 o))) := by
  refine (Finset.fold_filter_eq_fold_of_fiber max _
    (fun e : Fin 2 × Fin 2 => (ix5 m e.1 k e.2 o : (⟨5, ![a, 2, b, 2, d]⟩ : Shape).Idx))
    (fun _ _ e => Prod.ext (congrFun e 1) (congrFun e 3)) (fun i => ?_) ⊥ v).trans ?_
  · constructor
    · intro e
      refine ⟨(i 1, i 3), ?_⟩
      funext j
      apply Fin.ext
      match j with
      | ⟨0, _⟩ => exact (congrArg Fin.val (congrFun e ⟨0, show 0 < 3 by decide⟩)).symm
      | ⟨1, _⟩ => rfl
      | ⟨2, _⟩ => exact (congrArg Fin.val (congrFun e ⟨1, show 1 < 3 by decide⟩)).symm
      | ⟨3, _⟩ => rfl
      | ⟨4, _⟩ => exact (congrArg Fin.val (congrFun e ⟨2, show 2 < 3 by decide⟩)).symm
    · rintro ⟨e, rfl⟩
      funext j
      apply Fin.ext
      match j with
      | ⟨0, _⟩ => rfl
      | ⟨1, _⟩ => rfl
      | ⟨2, _⟩ => rfl
  · rw [show (Finset.univ : Finset (Fin 2 × Fin 2)) = {(0, 0), (0, 1), (1, 0), (1, 1)} by decide]
    rw [Finset.fold_insert (by decide), Finset.fold_insert (by decide), Finset.fold_insert (by decide), Finset.fold_singleton]
    simp only [max_bot_right, max_assoc]

/-- A sum over `m * n` points, each written as a quotient and a remainder by `n`, is a sum over both. -/
theorem sum_divMod {M : Type*} [AddCommMonoid M] (m n N : ℕ) (hN : N = m * n) (f : ℕ → ℕ → M) :
    ∑ t : Fin N, f (t.val / n) (t.val % n) = ∑ i : Fin m, ∑ j : Fin n, f i j := by
  subst hN
  rw [← Fintype.sum_prod_type' (fun (i : Fin m) (j : Fin n) => f i j), ← finProdFinEquiv.symm.sum_comp]
  rfl

/-- A sum over 48 points of a 4 by 12 grid and the 32 rows that each point covers is a sum over 4 images and 384 rows. -/
theorem sum_rows {M : Type*} [AddCommMonoid M] (N : ℕ) (hN : N = 48) (f : ℕ → ℕ → M) :
    ∑ t : Fin N, ∑ r : Fin 32, f (t.val / 12) (32 * (t.val % 12) + r) = ∑ n : Fin 4, ∑ h : Fin 384, f n h := by
  rw [sum_divMod 4 12 N (by omega) fun n t => ∑ r : Fin 32, f n (32 * t + r)]
  refine Finset.sum_congr rfl fun n _ => ?_
  rw [← sum_divMod 12 32 384 rfl fun t r => f n (32 * t + r)]
  exact Finset.sum_congr rfl fun h _ => by rw [Nat.div_add_mod]

end Cert.Net

end
-- ==== Proof.RefNorm.lean ====
/- The reference's two normalisations read at an index. -/
module

public import proofs.«01_k».proof.Proof.Gen.ReferenceIdeal.Read
public import proofs.«01_k».proof.Proof.Spec
public import proofs.«01_k».proof.Proof.Reduce
public import Idealize.ShloMosaic.Lib.Pointwise
public import Idealize.ShloMosaic.Lib.Tactic

@[expose] public section

noncomputable section

namespace Cert.ReferenceIdeal.Net

open Cert.ReferenceIdeal Cert.ReferenceIdeal.Gen Cert.ReferenceIdeal.Read Cert.Net Idealize.ShloMosaic Idealize.ShloMosaic.TcCoe Idealize.SL.Sem

/-- The number of pixels as the reference spells it. -/
theorem pixels : Ideal.ofBits .f32 0x49100000#32 = ((589824 : ℝ) : EReal) := by
  simp [Ideal.ofBits, Ideal.ieee, -EReal.coe_mul]
  norm_num

/-- It divides the squares' sum whole. -/
theorem pixels_sub : Ideal.ofBits .f32 0x49100000#32 - FloatOps.sitofp (F := Ideal) FTy.f32 0#32 = ((589824 : ℝ) : EReal) := by
  rw [pixels]
  show ((589824 : ℝ) : EReal) - (((0#32).toInt : ℝ) : EReal) = _
  simp

/-- The mean over the four images' pixels. -/
def meanOf (Y : Fin 4 → Fin 384 → Fin 384 → EReal) : EReal :=
  Ideal.div (∑ n : Fin 4, ∑ h : Fin 384, ∑ w : Fin 384, Y n h w) ((589824 : ℝ) : EReal)

/-- The mean square of the differences from the mean. -/
def varOf (Y : Fin 4 → Fin 384 → Fin 384 → EReal) : EReal :=
  Ideal.div (∑ n : Fin 4, ∑ h : Fin 384, ∑ w : Fin 384, (Y n h w - meanOf Y) * (Y n h w - meanOf Y)) ((589824 : ℝ) : EReal)

/-- The normalised, scaled and shifted value, and zero where it is negative. -/
def norm (Y : Fin 4 → Fin 384 → Fin 384 → EReal) (g be : EReal) (n : Fin 4) (h w : Fin 384) : EReal :=
  max (Ideal.div (Y n h w - meanOf Y) (Ideal.sqrt (varOf Y + eps)) * g + be) 0

/-- The first normalisation's mean, of a channel. -/
theorem mean1_apply (x0 : Vec Ideal S4x3x384x384 .f32) (x1 : Vec Ideal S64x3x3x3 .f32) (x2 : Vec Ideal S64 .f32) (o : Fin 64) :
    val_main_v62 (F := Ideal) x0 x1 x2 (ix4 0 o 0 0) = meanOf fun n h w => val_main_v58 (F := Ideal) x0 x1 x2 (ix4 n o h w) := by
  unfold val_main_v62 val_main_v61 val_main_cst_1 val_main_v60 val_main_v59 val_main_cst_0
  pointwise [hostReduceAdd_channels]
  rw [pixels]
  rfl

/-- The first normalisation's variance, of a channel. -/
theorem var1_apply (x0 : Vec Ideal S4x3x384x384 .f32) (x1 : Vec Ideal S64x3x3x3 .f32) (x2 : Vec Ideal S64 .f32) (o : Fin 64) :
    val_main_v63 (F := Ideal) x0 x1 x2 (ix4 0 o 0 0) = varOf fun n h w => val_main_v58 (F := Ideal) x0 x1 x2 (ix4 n o h w) := by
  unfold val_main_v63
  unfold val_main_call1_call0_v1 val_main_call1_v13 val_main_call1_v12 val_main_call1_v11 val_main_call1_v10 val_main_call1_v9 val_main_call1_v8
    val_main_call1_v7 val_main_call1_v6 val_main_call1_v5 val_main_call1_v4 val_main_call1_v3 val_main_call1_v2 val_main_call1_v1 val_main_call1_v0
    val_main_call1_call0_v0 val_main_call1_cst val_main_call1_cst_0 val_main_call1_cst_1 val_main_call1_cst_2 val_main_call1_cst_3
    val_main_call1_cst_4 val_main_c_2
  pointwise [hostReduceAdd_channels]
  rw [pixels_sub, pixels, if_pos (by exact_mod_cast (by norm_num : (0 : ℝ) < 589824))]
  rfl

/-- The first normalisation's result, at an element. -/
theorem norm1_apply (x0 : Vec Ideal S4x3x384x384 .f32) (x1 : Vec Ideal S64x3x3x3 .f32) (x2 x3 x4 : Vec Ideal S64 .f32) (n : Fin 4) (o : Fin 64) (h w : Fin 384) :
    val_main_v77 (F := Ideal) x0 x1 x2 x3 x4 (ix4 n o h w)
      = norm (fun n h w => val_main_v58 (F := Ideal) x0 x1 x2 (ix4 n o h w)) (x3 (ix1 o)) (x4 (ix1 o)) n h w := by
  unfold val_main_v77
  unfold val_main_v76 val_main_v75 val_main_v74 val_main_v73 val_main_v72 val_main_v71 val_main_v70 val_main_v69 val_main_v68 val_main_v67
    val_main_v66 val_main_v65 val_main_v64 val_main_cst_3 val_main_call2_v0 val_main_call2_cst
  pointwise
  rw [mean1_apply, var1_apply]
  rfl

/-- The second normalisation's mean, of a channel. -/
theorem mean2_apply (x0 : Vec Ideal S4x3x384x384 .f32) (x1 : Vec Ideal S64x3x3x3 .f32) (x2 x3 x4 : Vec Ideal S64 .f32) (x5 : Vec Ideal S128x64x3x3 .f32) (x6 : Vec Ideal S128 .f32) (o : Fin 128) :
    val_main_v140 (F := Ideal) x0 x1 x2 x3 x4 x5 x6 (ix4 0 o 0 0) = meanOf fun n h w => val_main_v136 (F := Ideal) x0 x1 x2 x3 x4 x5 x6 (ix4 n o h w) := by
  unfold val_main_v140 val_main_v139 val_main_cst_7 val_main_v138 val_main_v137 val_main_cst_6
  pointwise [hostReduceAdd_channels]
  rw [pixels]
  rfl

/-- The second normalisation's variance, of a channel. -/
theorem var2_apply (x0 : Vec Ideal S4x3x384x384 .f32) (x1 : Vec Ideal S64x3x3x3 .f32) (x2 x3 x4 : Vec Ideal S64 .f32) (x5 : Vec Ideal S128x64x3x3 .f32) (x6 : Vec Ideal S128 .f32) (o : Fin 128) :
    val_main_v141 (F := Ideal) x0 x1 x2 x3 x4 x5 x6 (ix4 0 o 0 0) = varOf fun n h w => val_main_v136 (F := Ideal) x0 x1 x2 x3 x4 x5 x6 (ix4 n o h w) := by
  unfold val_main_v141
  unfold val_main_call4_call0_v1 val_main_call4_v13 val_main_call4_v12 val_main_call4_v11 val_main_call4_v10 val_main_call4_v9 val_main_call4_v8
    val_main_call4_v7 val_main_call4_v6 val_main_call4_v5 val_main_call4_v4 val_main_call4_v3 val_main_call4_v2 val_main_call4_v1 val_main_call4_v0
    val_main_call4_call0_v0 val_main_call4_cst val_main_call4_cst_0 val_main_call4_cst_1 val_main_call4_cst_2 val_main_call4_cst_3
    val_main_call4_cst_4 val_main_c_8
  pointwise [hostReduceAdd_channels]
  rw [pixels_sub, pixels, if_pos (by exact_mod_cast (by norm_num : (0 : ℝ) < 589824))]
  rfl

/-- The second normalisation's result, at an element. -/
theorem norm2_apply (x0 : Vec Ideal S4x3x384x384 .f32) (x1 : Vec Ideal S64x3x3x3 .f32) (x2 x3 x4 : Vec Ideal S64 .f32) (x5 : Vec Ideal S128x64x3x3 .f32) (x6 x7 x8 : Vec Ideal S128 .f32) (n : Fin 4) (o : Fin 128) (h w : Fin 384) :
    val_main_v155 (F := Ideal) x0 x1 x2 x3 x4 x5 x6 x7 x8 (ix4 n o h w)
      = norm (fun n h w => val_main_v136 (F := Ideal) x0 x1 x2 x3 x4 x5 x6 (ix4 n o h w)) (x7 (ix1 o)) (x8 (ix1 o)) n h w := by
  unfold val_main_v155
  unfold val_main_v154 val_main_v153 val_main_v152 val_main_v151 val_main_v150 val_main_v149 val_main_v148 val_main_v147 val_main_v146 val_main_v145
    val_main_v144 val_main_v143 val_main_v142 val_main_cst_9 val_main_call5_v0 val_main_call5_cst
  pointwise
  rw [mean2_apply, var2_apply]
  rfl

end Cert.ReferenceIdeal.Net

end
-- ==== Proof.Algebra.lean ====
/- Why the kernel's spelling of a normalisation is the reference's: the variance as the mean square less the squared mean,
   the convolution's bias leaving with the mean, and the pooling passing through a rising function. -/
module

public import proofs.«01_k».proof.Proof.Spec
public import proofs.«01_k».proof.Proof.RefNorm

@[expose] public section

noncomputable section

namespace Cert.Net

open Idealize.ShloMosaic Cert.ReferenceIdeal.Net

/-- A sum of reals, taken among the extended reals. -/
theorem coe_sum' {ι : Type*} (t : Finset ι) (f : ι → ℝ) : ((∑ i ∈ t, f i : ℝ) : EReal) = ∑ i ∈ t, (f i : EReal) := by
  induction t using Finset.cons_induction with
  | empty => simp
  | cons a t ha ih => rw [Finset.sum_cons, Finset.sum_cons, EReal.coe_add, ih]

/-- Being a real number. -/
def IsReal (y : EReal) : Prop := ∃ r : ℝ, y = (r : EReal)

/-- Zero is a real. -/
theorem IsReal.zero : IsReal 0 := ⟨0, by simp⟩

/-- The sum of two reals is a real. -/
theorem IsReal.add {y z : EReal} (hy : IsReal y) (hz : IsReal z) : IsReal (y + z) := by
  obtain ⟨r, rfl⟩ := hy
  obtain ⟨t, rfl⟩ := hz
  exact ⟨r + t, (EReal.coe_add r t).symm⟩

/-- The product of two reals is a real. -/
theorem IsReal.mul {y z : EReal} (hy : IsReal y) (hz : IsReal z) : IsReal (y * z) := by
  obtain ⟨r, rfl⟩ := hy
  obtain ⟨t, rfl⟩ := hz
  exact ⟨r * t, (EReal.coe_mul r t).symm⟩

/-- A finite sum of reals is a real. -/
theorem IsReal.sum {ι : Type*} (t : Finset ι) {f : ι → EReal} (h : ∀ i ∈ t, IsReal (f i)) : IsReal (∑ i ∈ t, f i) := by
  induction t using Finset.cons_induction with
  | empty => rw [Finset.sum_empty]; exact .zero
  | cons a t ha ih =>
    rw [Finset.sum_cons]
    exact (h a (Finset.mem_cons_self a t)).add (ih fun i hi => h i (Finset.mem_cons_of_mem hi))

/-- A correlation of real images with real weights is real. -/
theorem conv_real {k : ℕ} {X : Fin k → ℕ → ℕ → EReal} {w : Fin k → Fin 3 → Fin 3 → EReal} (hX : ∀ i p q, IsReal (X i p q))
    (hw : ∀ i dy dx, IsReal (w i dy dx)) (p q : ℕ) : IsReal (conv X w p q) :=
  .sum _ fun _ _ => .sum _ fun _ _ => .sum _ fun _ _ => (hX _ _ _).mul (hw _ _ _)

/-- The small number is a positive real. -/
theorem eps_pos : ∃ e : ℝ, 0 < e ∧ eps = (e : EReal) := by
  refine ⟨(Ideal.ofBits .f32 0x3727C5AC#32).toReal, ?_, ?_⟩
  · simp [Ideal.ofBits, Ideal.ieee, -EReal.coe_mul]
  · unfold eps
    simp [Ideal.ofBits, Ideal.ieee, -EReal.coe_mul]

/-- The sum of the squared differences from any number. -/
theorem sum_sq_sub {ι : Type*} [Fintype ι] (c : ι → ℝ) (μ : ℝ) :
    ∑ i, (c i - μ) * (c i - μ) = (∑ i, c i * c i) - 2 * μ * (∑ i, c i) + Fintype.card ι * (μ * μ) := by
  have h : ∀ i, (c i - μ) * (c i - μ) = c i * c i - 2 * μ * c i + μ * μ := fun i => by ring
  simp only [h, Finset.sum_add_distrib, Finset.sum_sub_distrib, ← Finset.mul_sum, Finset.sum_const, Finset.card_univ, nsmul_eq_mul]
  ring

/-- The sum over all pixels as one sum. -/
theorem total_coe (c : Fin 4 → Fin 384 → Fin 384 → ℝ) :
    (∑ n : Fin 4, ∑ h : Fin 384, ∑ w : Fin 384, (c n h w : EReal)) = ((∑ i : Fin 4 × Fin 384 × Fin 384, c i.1 i.2.1 i.2.2 : ℝ) : EReal) := by
  rw [Fintype.sum_prod_type]
  simp only [Fintype.sum_prod_type, coe_sum']

variable (c : Fin 4 → Fin 384 → Fin 384 → ℝ)

/-- The mean of the values and of the squares. -/
def meanR : ℝ := (∑ i : Fin 4 × Fin 384 × Fin 384, c i.1 i.2.1 i.2.2) * (1 / 589824)
/-- The mean of a channel's squares, over the reals. -/
def sqR : ℝ := (∑ i : Fin 4 × Fin 384 × Fin 384, c i.1 i.2.1 i.2.2 * c i.1 i.2.1 i.2.2) * (1 / 589824)

/-- There are 589824 pixels in a channel. -/
theorem card_pixels : (Fintype.card (Fin 4 × Fin 384 × Fin 384) : ℝ) = 589824 := by
  simp only [Fintype.card_prod, Fintype.card_fin]
  norm_num

/-- The mean of the biased values. -/
theorem meanOf_coe (b : ℝ) : meanOf (fun n h w => (c n h w : EReal) + (b : EReal)) = ((meanR c + b : ℝ) : EReal) := by
  unfold meanOf
  rw [Ideal.div_coe (by norm_num)]
  have e : (∑ n : Fin 4, ∑ h : Fin 384, ∑ w : Fin 384, ((c n h w : EReal) + (b : EReal)))
      = ((∑ i : Fin 4 × Fin 384 × Fin 384, (c i.1 i.2.1 i.2.2 + b) : ℝ) : EReal) :=
    total_coe fun n h w => c n h w + b
  rw [e, ← EReal.coe_mul, Finset.sum_add_distrib, Finset.sum_const, Finset.card_univ, nsmul_eq_mul, card_pixels]
  unfold meanR
  generalize (∑ i : Fin 4 × Fin 384 × Fin 384, c i.1 i.2.1 i.2.2) = s
  refine congrArg (fun r : ℝ => (r : EReal)) ?_
  ring

/-- The variance of the biased values. -/
theorem varOf_coe (b : ℝ) : varOf (fun n h w => (c n h w : EReal) + (b : EReal)) = ((sqR c - meanR c * meanR c : ℝ) : EReal) := by
  unfold varOf
  rw [Ideal.div_coe (by norm_num), meanOf_coe]
  have e : (∑ n : Fin 4, ∑ h : Fin 384, ∑ w : Fin 384,
        ((c n h w : EReal) + (b : EReal) - ((meanR c + b : ℝ) : EReal)) * ((c n h w : EReal) + (b : EReal) - ((meanR c + b : ℝ) : EReal)))
      = ((∑ i : Fin 4 × Fin 384 × Fin 384, (c i.1 i.2.1 i.2.2 - meanR c) * (c i.1 i.2.1 i.2.2 - meanR c) : ℝ) : EReal) := by
    rw [← total_coe fun n h w => (c n h w - meanR c) * (c n h w - meanR c)]
    refine Finset.sum_congr rfl fun n _ => Finset.sum_congr rfl fun h _ => Finset.sum_congr rfl fun w _ => ?_
    rw [← EReal.coe_add, ← EReal.coe_sub, ← EReal.coe_mul]
    refine congrArg (fun r : ℝ => (r : EReal)) ?_
    ring
  rw [e, ← EReal.coe_mul, sum_sq_sub, card_pixels]
  unfold sqR meanR
  generalize (∑ i : Fin 4 × Fin 384 × Fin 384, c i.1 i.2.1 i.2.2) = s
  generalize (∑ i : Fin 4 × Fin 384 × Fin 384, c i.1 i.2.1 i.2.2 * c i.1 i.2.1 i.2.2) = q
  refine congrArg (fun r : ℝ => (r : EReal)) ?_
  ring

/-- The mean of the squares less the square of the mean is not negative. -/
theorem var_nonneg : 0 ≤ sqR c - meanR c * meanR c := by
  have h := sum_sq_sub (fun i : Fin 4 × Fin 384 × Fin 384 => c i.1 i.2.1 i.2.2) (meanR c)
  rw [card_pixels] at h
  have h0 : 0 ≤ ∑ i : Fin 4 × Fin 384 × Fin 384, (c i.1 i.2.1 i.2.2 - meanR c) * (c i.1 i.2.1 i.2.2 - meanR c) :=
    Finset.sum_nonneg fun i _ => mul_self_nonneg _
  rw [h] at h0
  have e : (∑ i : Fin 4 × Fin 384 × Fin 384, c i.1 i.2.1 i.2.2) = 589824 * meanR c := by unfold meanR; ring
  have e' : (∑ i : Fin 4 × Fin 384 × Fin 384, c i.1 i.2.1 i.2.2 * c i.1 i.2.1 i.2.2) = 589824 * sqR c := by unfold sqR; ring
  simp only [e, e'] at h0
  nlinarith

/-- The kernel's factor is a real, and not negative when the gain is not. -/
theorem scale_coe (s q : EReal) (g : ℝ) (hs : s = ∑ n : Fin 4, ∑ h : Fin 384, ∑ w : Fin 384, (c n h w : EReal))
    (hq : q = ∑ n : Fin 4, ∑ h : Fin 384, ∑ w : Fin 384, (c n h w : EReal) * (c n h w : EReal)) :
    ∃ t : ℝ, 0 < t ∧ Ideal.sqrt (((sqR c - meanR c * meanR c : ℝ) : EReal) + eps) = (t : EReal)
      ∧ s * invPix = (meanR c : EReal) ∧ scale s q g = ((t⁻¹ * g : ℝ) : EReal) := by
  obtain ⟨e, he, hE⟩ := eps_pos
  have hv := var_nonneg c
  have hm : s * invPix = (meanR c : EReal) := by
    rw [hs, total_coe]
    exact (EReal.coe_mul _ _).symm
  have hsq : q * invPix = (sqR c : EReal) := by
    have h := total_coe fun n h w => c n h w * c n h w
    simp only [EReal.coe_mul] at h
    rw [hq, h]
    exact (EReal.coe_mul _ _).symm
  have hpos : 0 < sqR c - meanR c * meanR c + e := by linarith
  refine ⟨Real.sqrt (sqR c - meanR c * meanR c + e), Real.sqrt_pos.2 hpos, ?_, hm, ?_⟩
  · rw [hE, ← EReal.coe_add, Ideal.sqrt_coe, if_neg (by linarith)]
  · unfold scale
    rw [hsq, hm, hE, ← EReal.coe_mul, ← EReal.coe_sub, ← EReal.coe_add, Ideal.rsqrt_coe, if_neg (by linarith), if_neg (by linarith),
      ← EReal.coe_mul]

/-- A normalised layer: the reference's spelling of the biased values is the kernel's of the plain ones. -/
theorem norm_eq (b g : ℝ) (be s q : EReal) (hs : s = ∑ n : Fin 4, ∑ h : Fin 384, ∑ w : Fin 384, (c n h w : EReal))
    (hq : q = ∑ n : Fin 4, ∑ h : Fin 384, ∑ w : Fin 384, (c n h w : EReal) * (c n h w : EReal)) (n : Fin 4) (h w : Fin 384) :
    Cert.ReferenceIdeal.Net.norm (fun n h w => (c n h w : EReal) + (b : EReal)) g be n h w = act s q g be (c n h w) := by
  obtain ⟨t, ht, h1, h2, h3⟩ := scale_coe c s q g hs hq
  unfold Cert.ReferenceIdeal.Net.norm act shift
  rw [meanOf_coe, varOf_coe, h1, h2, h3, Ideal.div_coe ht.ne']
  dsimp only
  rw [← EReal.coe_add, ← EReal.coe_sub, ← EReal.coe_mul, ← EReal.coe_mul,
    ← EReal.coe_mul, ← EReal.coe_mul]
  refine congrArg (fun r : EReal => max r 0) ?_
  rw [sub_eq_add_neg be, add_comm be (-_), ← add_assoc, ← EReal.coe_neg, ← EReal.coe_add]
  refine congrArg (fun r : ℝ => (r : EReal) + be) ?_
  ring

/-- A normalised value is real unless the offset is plus infinity. -/
theorem act_real (g : ℝ) (be s q : EReal) (hbe : be ≠ ⊤) (hs : s = ∑ n : Fin 4, ∑ h : Fin 384, ∑ w : Fin 384, (c n h w : EReal))
    (hq : q = ∑ n : Fin 4, ∑ h : Fin 384, ∑ w : Fin 384, (c n h w : EReal) * (c n h w : EReal)) (y : ℝ) : IsReal (act s q g be y) := by
  obtain ⟨t, ht, h1, h2, h3⟩ := scale_coe c s q g hs hq
  unfold act shift
  rw [h2, h3, ← EReal.coe_mul, ← EReal.coe_mul]
  induction be using EReal.rec with
  | bot => exact ⟨0, by simp⟩
  | top => exact absurd rfl hbe
  | coe r =>
    rw [← EReal.coe_sub, ← EReal.coe_add]
    exact ⟨max (y * (t⁻¹ * g) + (r - meanR c * (t⁻¹ * g))) 0, by rw [EReal.coe_strictMono.monotone.map_max]; rfl⟩

/-- With a gain that is not negative a normalised value rises with the value. -/
theorem act_mono (g : ℝ) (hg : 0 ≤ g) (be s q : EReal) (hs : s = ∑ n : Fin 4, ∑ h : Fin 384, ∑ w : Fin 384, (c n h w : EReal))
    (hq : q = ∑ n : Fin 4, ∑ h : Fin 384, ∑ w : Fin 384, (c n h w : EReal) * (c n h w : EReal)) : Monotone (act s q g be) := by
  obtain ⟨t, ht, h1, h2, h3⟩ := scale_coe c s q g hs hq
  intro y z hyz
  unfold act
  have h0 : (0 : EReal) ≤ scale s q g := by
    rw [h3]
    exact_mod_cast mul_nonneg (inv_nonneg.2 ht.le) hg
  exact max_le_max (add_le_add (mul_le_mul_of_nonneg_right hyz h0) le_rfl) le_rfl

/-- So the maximum over a square may be taken before it. -/
theorem act_maxOfFour (g : ℝ) (hg : 0 ≤ g) (be s q : EReal) (hs : s = ∑ n : Fin 4, ∑ h : Fin 384, ∑ w : Fin 384, (c n h w : EReal))
    (hq : q = ∑ n : Fin 4, ∑ h : Fin 384, ∑ w : Fin 384, (c n h w : EReal) * (c n h w : EReal)) (f : ℕ → ℕ → EReal) (m k : ℕ) :
    act s q g be (maxOfFour f m k) = maxOfFour (fun p u => act s q g be (f p u)) m k := by
  have hm := act_mono c g hg be s q hs hq
  unfold maxOfFour
  rw [hm.map_max, hm.map_max, hm.map_max]

end Cert.Net

end
-- ==== Proof.Pre.lean ====
/- What the precondition says of the arguments: which of them are real numbers, and which are bounded. -/
module

public import proofs.«01_k».proof.Defs
public import proofs.«01_k».proof.Proof.Algebra
public import Idealize.ShloMosaic.Lib.Pointwise
public import Idealize.ShloMosaic.Lib.Tactic

@[expose] public section

noncomputable section

namespace Cert.Pre_finite_inputs.Read

open Cert.Pre_finite_inputs Cert.Net Idealize.ShloMosaic Idealize.SL.Sem

/-- The shapes' facts that the predicate states. -/
theorem facts : Cert.Pre_finite_inputs.Facts where
  bcast_S_S4x3x384x384 := by decide
  bcast_S_S64x3x3x3 := by decide
  bcast_S_S64 := by decide
  bcast_S_S128x64x3x3 := by decide
  bcast_S_S128 := by decide

/-- Plus infinity as the predicate spells it. -/
theorem infinity : Ideal.ofBits .f32 0x7F800000#32 = (⊤ : EReal) := by
  simp [Ideal.ofBits, Ideal.ieee]

/-- A one-bit word of a proposition. -/
theorem of_bit {p : Prop} [Decidable p] (h : BitVec.ofBool (decide p) = 1#1) : p := by
  by_contra hn
  rw [decide_eq_false hn] at h
  exact absurd h (by decide)

/-- An element less than plus infinity. -/
theorem ne_top {x : EReal} (h : Ideal.cmp .olt x (Ideal.ofBits .f32 0x7F800000#32) = 1#1) : x ≠ ⊤ := by
  rw [infinity] at h
  exact (of_bit (p := x < ⊤) h).ne

/-- An element whose absolute value is less than plus infinity is real. -/
theorem real_of_abs {x : EReal} (h : Ideal.cmp .olt (max x (-x)) (Ideal.ofBits .f32 0x7F800000#32) = 1#1) : IsReal x := by
  have h' := ne_top h
  induction x using EReal.rec with
  | coe r => exact ⟨r, rfl⟩
  | bot => exact absurd (by simp) h'
  | top => exact absurd (by simp) h'

/-- An element that is at least zero and less than plus infinity. -/
theorem gain_of {x : EReal} (h : IntOp.andi (Ideal.cmp .oge x (Ideal.ofBits .f32 0x00000000#32))
      (Ideal.cmp .olt x (Ideal.ofBits .f32 0x7F800000#32)) = 1#1) : ∃ r : ℝ, 0 ≤ r ∧ x = (r : EReal) := by
  obtain ⟨h0, h1⟩ := IntOp.andi_eq_one.1 h
  have h0' : (0 : EReal) ≤ x := by
    have z : Ideal.ofBits .f32 0x00000000#32 = (0 : EReal) := by simp [Ideal.ofBits, Ideal.ieee]
    rw [z] at h0
    exact of_bit (p := (0 : EReal) ≤ x) h0
  have h1' := ne_top h1
  induction x using EReal.rec with
  | coe r => exact ⟨r, by exact_mod_cast h0', rfl⟩
  | bot => exact absurd h0' (by simp)
  | top => exact absurd rfl h1'

attribute [local instance] facts

variable {x0 : FVec Ideal S4x3x384x384 .f32} {x1 : FVec Ideal S64x3x3x3 .f32} {x2 x3 x4 : FVec Ideal S64 .f32}
  {x5 : FVec Ideal S128x64x3x3 .f32} {x6 x7 x8 : FVec Ideal S128 .f32} {x9 : FVec Ideal S128x3x4x4 .f32} {x10 : FVec Ideal S3 .f32}

/-- The image is real. -/
theorem image (h : (fn (F := Ideal) x0 x1 x2 x3 x4 x5 x6 x7 x8 x9 x10).1 = fun _ => 1#1) (i : S4x3x384x384.Idx) : IsReal (x0 i) :=
  real_of_abs (congrFun h i)

/-- The first convolution's weights are real. -/
theorem weights1 (h : (fn (F := Ideal) x0 x1 x2 x3 x4 x5 x6 x7 x8 x9 x10).2.1 = fun _ => 1#1) (i : S64x3x3x3.Idx) : IsReal (x1 i) :=
  real_of_abs (congrFun h i)

/-- The first convolution's bias is real. -/
theorem bias1 (h : (fn (F := Ideal) x0 x1 x2 x3 x4 x5 x6 x7 x8 x9 x10).2.2.1 = fun _ => 1#1) (i : S64.Idx) : IsReal (x2 i) :=
  real_of_abs (congrFun h i)

/-- The first normalisation's gain is real. -/
theorem gain1 (h : (fn (F := Ideal) x0 x1 x2 x3 x4 x5 x6 x7 x8 x9 x10).2.2.2.1 = fun _ => 1#1) (i : S64.Idx) : IsReal (x3 i) :=
  real_of_abs (congrFun h i)

/-- The first normalisation's offset is not plus infinity. -/
theorem offset1 (h : (fn (F := Ideal) x0 x1 x2 x3 x4 x5 x6 x7 x8 x9 x10).2.2.2.2.1 = fun _ => 1#1) (i : S64.Idx) : x4 i ≠ (⊤ : EReal) :=
  ne_top (congrFun h i)

/-- The second convolution's weights are real. -/
theorem weights2 (h : (fn (F := Ideal) x0 x1 x2 x3 x4 x5 x6 x7 x8 x9 x10).2.2.2.2.2.1 = fun _ => 1#1) (i : S128x64x3x3.Idx) : IsReal (x5 i) :=
  real_of_abs (congrFun h i)

/-- The second convolution's bias is real. -/
theorem bias2 (h : (fn (F := Ideal) x0 x1 x2 x3 x4 x5 x6 x7 x8 x9 x10).2.2.2.2.2.2.1 = fun _ => 1#1) (i : S128.Idx) : IsReal (x6 i) :=
  real_of_abs (congrFun h i)

/-- The second normalisation's gain is a real that is not negative. -/
theorem gain2 (h : (fn (F := Ideal) x0 x1 x2 x3 x4 x5 x6 x7 x8 x9 x10).2.2.2.2.2.2.2 = fun _ => 1#1) (i : S128.Idx) :
    ∃ r : ℝ, 0 ≤ r ∧ x7 i = (r : EReal) :=
  gain_of (congrFun h i)

end Cert.Pre_finite_inputs.Read

end
-- ==== Proof.Host.lean ====
/- The arrays that the kernel's host operations prepare, read at an index. -/
module

public import proofs.«01_k».proof.Proof.Gen.KernelIdeal.Frame
public import proofs.«01_k».proof.Proof.Spec
public import Idealize.ShloMosaic.Lib.StableHlo.ReadAt
public import Idealize.ShloMosaic.Lib.Pointwise
public import Idealize.ShloMosaic.Lib.Tactic

@[expose] public section

noncomputable section

namespace Cert.KernelIdeal.Host

open Cert.KernelIdeal Cert.KernelIdeal.Gen Cert.Net Idealize.ShloMosaic Idealize.ShloMosaic.TcCoe Idealize.SL.Sem

variable (m : (ℓ : Loc nD τ sig) → Buf (Elt Ideal) ℓ) (ρ : Dev nD → PrngReg) (c : Dev nD)

/-- The first convolution's weights, taps first. -/
theorem at_w1 (dy dx k : Fin 3) (o : Fin 64) :
    V3 m ρ c main_v2 (ix4 dy dx k o) = m ((c : Thread nD τ).loc main_arg1) (ix4 o k dy dx) := by
  unfold V3 W3
  after_reads_at

/-- The image, padded by two. -/
theorem at_x (n : Fin 4) (p : Fin 388) (k : Fin 3) (q : Fin 388) :
    V3 m ρ c main_v1 (ix4 n p k q) = (padded 2 (fun h w => m ((c : Thread nD τ).loc main_arg0) (ix4 n k h w)) p q : EReal) := by
  refine (congrFun (W3_of m ρ c main_v1 (by decide)) _).trans ?_
  unfold W2 W1
  after_reads_at
  unfold padded
  split
  · rfl
  · show (((0#32).toInt : ℝ) : EReal) = 0
    simp

/-- The second convolution's weights, taps first. -/
theorem at_w2 (dy dx : Fin 3) (k : Fin 64) (o : Fin 128) :
    V3 m ρ c main_v3 (ix4 dy dx k o) = m ((c : Thread nD τ).loc main_arg5) (ix4 o k dy dx) := by
  unfold V3 W3
  after_reads_at

/-- The first normalisation's gain, as a row. -/
theorem at_g1 (o : Fin 64) : V3 m ρ c main_v121 (ix2 (0 : Fin 1) o) = m ((c : Thread nD τ).loc main_arg3) (ix1 o) := by
  unfold V3 W3
  after_reads_at

/-- The first normalisation's offset, as a row. -/
theorem at_be1 (o : Fin 64) : V3 m ρ c main_v122 (ix2 (0 : Fin 1) o) = m ((c : Thread nD τ).loc main_arg4) (ix1 o) := by
  unfold V3 W3
  after_reads_at

/-- The second normalisation's gain, as a row. -/
theorem at_g2 (o : Fin 128) : V3 m ρ c main_v123 (ix2 (0 : Fin 1) o) = m ((c : Thread nD τ).loc main_arg7) (ix1 o) := by
  unfold V3 W3
  after_reads_at

/-- The second normalisation's offset, as a row. -/
theorem at_be2 (o : Fin 128) : V3 m ρ c main_v124 (ix2 (0 : Fin 1) o) = m ((c : Thread nD τ).loc main_arg8) (ix1 o) := by
  unfold V3 W3
  after_reads_at

/-- The last bias, once for each of the four parities. -/
theorem at_bt (j : Fin 12) :
    V3 m ρ c main_v120 (ix2 (0 : Fin 1) j) = m ((c : Thread nD τ).loc main_arg10) (ix1 (⟨j.val % 3, Nat.mod_lt _ (by decide)⟩ : Fin 3)) := by
  unfold V3 W3
  after_reads_at

/-- The pooled array with a column of zeros on either side. -/
theorem at_pool (n : Fin 4) (m' : Fin 192) (y : Fin 194) (o : Fin 128) :
    V7 m ρ c main_v127 (ix4 n m' y o)
      = if h : 1 ≤ y.val ∧ y.val ≤ 192 then W5 m ρ c (Proc.devRef .tc main_v126_0) (ix4 n m' (⟨y.val - 1, by omega⟩ : Fin 192) o) else (0 : EReal) := by
  unfold V7 W7 W6
  after_reads_at
  by_cases h : 1 ≤ y.val ∧ y.val ≤ 192
  · rw [dif_pos h, dif_pos ⟨h.1, by omega⟩]
  · rw [dif_neg h, dif_neg (by omega)]
    show (((0#32).toInt : ℝ) : EReal) = 0
    simp

/-- The result, from the twelve channels the last call writes at each position. -/
theorem at_result (n : Fin 4) (co : Fin 3) (h w : Fin 384) :
    W9 m ρ c (Proc.devRef .tc main_v131) (ix4 n co h w)
      = W8 m ρ c (Proc.devRef .tc main_v128) (ix4 n (⟨h.val / 2, by omega⟩ : Fin 192) (⟨w.val / 2, by omega⟩ : Fin 192)
          (⟨(h.val % 2 * 2 + w.val % 2) * 3 + co.val, by omega⟩ : Fin 12)) := by
  unfold W9
  after_reads_at
  refine congrArg _ (congrArg (ix4 n _ _) (Fin.ext ?_))
  show h.val % 2 * 6 + w.val % 2 * 3 + co.val = (h.val % 2 * 2 + w.val % 2) * 3 + co.val
  omega

end Cert.KernelIdeal.Host

end
-- ==== Proof.Place.lean ====
/- The kernel's sixteen updates of its weight array: each sets the three columns of one parity at one tap. -/
module

public import proofs.«01_k».proof.Proof.Gen.KernelIdeal.Frame
public import Idealize.ShloMosaic.Lib.Routing.OpsPair
public import Idealize.ShloMosaic.Lib.Routing.OpsSet
public import Idealize.ShloMosaic.Lib.Pointwise

@[expose] public section

noncomputable section

namespace Cert.KernelIdeal.Place

open Cert.KernelIdeal Cert.KernelIdeal.Gen Idealize.ShloMosaic

/-- Where an update lands: at the tap that the index's first two words give, its column moved by the third. -/
theorem lands (idx : IVec S3 32) (i : Fin 128) (j : Fin 3) (dy dx : Fin 3) (k : Fin 128) (o : Fin 12) :
    scatter_S3x3x128x12_S3_S128x3_01_01_013_0.resultIdx? (ix2 i j) idx = some (ix4 dy dx k o)
      ↔ (idx (ix1 0)).toInt = dy.val ∧ (idx (ix1 1)).toInt = dx.val ∧ i = k ∧ (idx (ix1 2)).toInt + j.val = o.val := by
  have s0 : scatter_S3x3x128x12_S3_S128x3_01_01_013_0.start (ix2 i j) idx 0 = (idx (ix1 0)).toInt := by
    unfold ScatterDims.start
    rw [dif_pos (by decide)]
    exact congrArg (fun b => (idx b).toInt) (funext fun a => by fin_cases a; exact Fin.ext rfl)
  have s1 : scatter_S3x3x128x12_S3_S128x3_01_01_013_0.start (ix2 i j) idx 1 = (idx (ix1 1)).toInt := by
    unfold ScatterDims.start
    rw [dif_pos (by decide)]
    exact congrArg (fun b => (idx b).toInt) (funext fun a => by fin_cases a; exact Fin.ext rfl)
  have s2 : scatter_S3x3x128x12_S3_S128x3_01_01_013_0.start (ix2 i j) idx 2 = 0 := rfl
  have s3 : scatter_S3x3x128x12_S3_S128x3_01_01_013_0.start (ix2 i j) idx 3 = (idx (ix1 2)).toInt := by
    unfold ScatterDims.start
    rw [dif_pos (by decide)]
    exact congrArg (fun b => (idx b).toInt) (funext fun a => by fin_cases a; exact Fin.ext rfl)
  have w0 : scatter_S3x3x128x12_S3_S128x3_01_01_013_0.window (ix2 i j) 0 = 0 := rfl
  have w1 : scatter_S3x3x128x12_S3_S128x3_01_01_013_0.window (ix2 i j) 1 = 0 := rfl
  have w2 : scatter_S3x3x128x12_S3_S128x3_01_01_013_0.window (ix2 i j) 2 = i.val := rfl
  have w3 : scatter_S3x3x128x12_S3_S128x3_01_01_013_0.window (ix2 i j) 3 = j.val := rfl
  rw [Routing.resultIdx?_eq_some]
  constructor
  · intro h
    have h0 := h 0
    have h1 := h 1
    have h2 := h 2
    have h3 := h 3
    rw [s0, w0] at h0
    rw [s1, w1] at h1
    rw [s2, w2] at h2
    rw [s3, w3] at h3
    refine ⟨?_, ?_, Fin.ext ?_, ?_⟩
    · simpa using h0
    · simpa using h1
    · have : (0 : Int) + (i.val : Int) = (k.val : Int) := h2
      omega
    · exact h3
  · rintro ⟨h0, h1, h2, h3⟩ a
    match a with
    | ⟨0, _⟩ => exact (congrArg₂ (fun (a : Int) (b : ℕ) => a + (b : Int)) s0 w0).trans (by simpa using h0)
    | ⟨1, _⟩ => exact (congrArg₂ (fun (a : Int) (b : ℕ) => a + (b : Int)) s1 w1).trans (by simpa using h1)
    | ⟨2, _⟩ => exact (congrArg₂ (fun (a : Int) (b : ℕ) => a + (b : Int)) s2 w2).trans (by rw [h2]; exact zero_add _)
    | ⟨3, _⟩ => exact (congrArg₂ (fun (a : Int) (b : ℕ) => a + (b : Int)) s3 w3).trans h3

/-- One update read at an index: it sets the columns of parity `p` at the tap `(ry, rx)` and leaves the others. -/
theorem place {α : Type} (ry rx : Fin 3) (p : Fin 4) (x : S3x3x128x12.Idx → α) (idx : IVec S3 32) (u : S128x3.Idx → α)
    (h0 : (idx (ix1 0)).toInt = ry.val) (h1 : (idx (ix1 1)).toInt = rx.val) (h2 : (idx (ix1 2)).toInt = 3 * p.val)
    (dy dx : Fin 3) (k : Fin 128) (o : Fin 12) :
    Host.scatter scatter_S3x3x128x12_S3_S128x3_01_01_013_0 (fun _ b => b) x idx u (ix4 dy dx k o)
      = if dy = ry ∧ dx = rx ∧ o.val / 3 = p.val then u (ix2 k ⟨o.val % 3, Nat.mod_lt _ (by decide)⟩) else x (ix4 dy dx k o) := by
  split
  · next h =>
    obtain ⟨e0, e1, e2⟩ := h
    refine Routing.scatter_set_hit _ x idx u _ _ (fun i e => ?_) (ix2 k ⟨o.val % 3, Nat.mod_lt _ (by decide)⟩) ?_
    · obtain ⟨i, j, rfl⟩ : ∃ (a : Fin 128) (b : Fin 3), i = ix2 a b := ⟨i 0, i 1, funext fun a => by fin_cases a <;> rfl⟩
      obtain ⟨_, _, e4, e5⟩ := (lands idx i j dy dx k o).1 e
      have : j.val = o.val % 3 := by omega
      rw [e4, Fin.ext (a := j) (b := ⟨o.val % 3, Nat.mod_lt _ (by decide)⟩) this]
    · exact (lands idx _ _ dy dx k o).2 ⟨by rw [h0, e0], by rw [h1, e1], rfl, by
        rw [h2]; show 3 * (p.val : Int) + ((o.val % 3 : ℕ) : Int) = o.val; omega⟩
  · next h =>
    refine Routing.scatter_set_miss _ x idx u _ fun i e => h ?_
    obtain ⟨i, j, rfl⟩ : ∃ (a : Fin 128) (b : Fin 3), i = ix2 a b := ⟨i 0, i 1, funext fun a => by fin_cases a <;> rfl⟩
    obtain ⟨e0, e1, _, e3⟩ := (lands idx i j dy dx k o).1 e
    exact ⟨Fin.ext (by omega), Fin.ext (by omega), by omega⟩

end Cert.KernelIdeal.Place

end
-- ==== Proof.Weights.lean ====
/- The weights of the transposed convolution as the kernel's host operations lay them out: for each of the four output parities, nine taps. -/
module

public import proofs.«01_k».proof.Proof.Gen.KernelIdeal.Frame
public import proofs.«01_k».proof.Proof.Spec
public import proofs.«01_k».proof.Proof.Place
public import Idealize.ShloMosaic.Lib.StableHlo.ReadAt
public import Idealize.ShloMosaic.Lib.Pointwise
public import Idealize.ShloMosaic.Lib.Tactic

@[expose] public section

noncomputable section

namespace Cert.KernelIdeal.Weights

open Cert.KernelIdeal Cert.KernelIdeal.Gen Cert.Net Idealize.ShloMosaic Idealize.ShloMosaic.TcCoe Idealize.SL.Sem

variable (m : (ℓ : Loc nD τ sig) → Buf (Elt Ideal) ℓ) (ρ : Dev nD → PrngReg) (c : Dev nD)

/-- Sixteen placed slabs are the taps of the four parities. -/
theorem slabs (f : Fin 4 → Fin 4 → EReal) (p : Fin 4) (dy dx : Fin 3) (d : ℕ) (hd : d = p.val) :
    (
      if dy = 2 ∧ dx = 2 ∧ d = 3 then f 0 0 else
      if dy = 2 ∧ dx = 1 ∧ d = 3 then f 0 2 else
      if dy = 2 ∧ dx = 1 ∧ d = 2 then f 0 1 else
      if dy = 2 ∧ dx = 0 ∧ d = 2 then f 0 3 else
      if dy = 1 ∧ dx = 2 ∧ d = 3 then f 2 0 else
      if dy = 1 ∧ dx = 1 ∧ d = 3 then f 2 2 else
      if dy = 1 ∧ dx = 1 ∧ d = 2 then f 2 1 else
      if dy = 1 ∧ dx = 0 ∧ d = 2 then f 2 3 else
      if dy = 1 ∧ dx = 2 ∧ d = 1 then f 1 0 else
      if dy = 1 ∧ dx = 1 ∧ d = 1 then f 1 2 else
      if dy = 1 ∧ dx = 1 ∧ d = 0 then f 1 1 else
      if dy = 1 ∧ dx = 0 ∧ d = 0 then f 1 3 else
      if dy = 0 ∧ dx = 2 ∧ d = 1 then f 3 0 else
      if dy = 0 ∧ dx = 1 ∧ d = 1 then f 3 2 else
      if dy = 0 ∧ dx = 1 ∧ d = 0 then f 3 1 else
      if dy = 0 ∧ dx = 0 ∧ d = 0 then f 3 3 else
      0)
      = deconvW f ⟨p.val / 2, by omega⟩ ⟨p.val % 2, by omega⟩ dy dx := by
  subst hd
  fin_cases p <;> fin_cases dy <;> fin_cases dx <;> simp [deconvW, tap]

set_option maxHeartbeats 4000000 in
/-- Channel `o` of the prepared weights belongs to parity `o / 3` and output channel `o % 3`. -/
theorem at_w9 (dy dx : Fin 3) (k : Fin 128) (o : Fin 12) (p : Fin 4) (hp : o.val / 3 = p.val) :
    V3 m ρ c main_v116 (ix4 dy dx k o)
      = (deconvW (fun ky kx => m ((c : Thread nD τ).loc main_arg9) (ix4 k (⟨o.val % 3, Nat.mod_lt _ (by decide)⟩ : Fin 3) ky kx)) ⟨p.val / 2, by omega⟩
          ⟨p.val % 2, by omega⟩ dy dx : EReal) := by
  unfold V3 W3
  after_reads_simp
  rw [Place.place 2 2 3, Place.place 2 1 3, Place.place 2 1 2, Place.place 2 0 2, Place.place 1 2 3, Place.place 1 1 3, Place.place 1 1 2, Place.place 1 0 2, Place.place 1 2 1, Place.place 1 1 1, Place.place 1 1 0, Place.place 1 0 0, Place.place 0 2 1, Place.place 0 1 1, Place.place 0 1 0, Place.place 0 0 0]
  all_goals try simp -implicitDefEqProofs only [StableHlo.TRef.toBuf, StableHlo.TRef.ofBuf, cast_cast, cast_eq]
  all_goals clean_types
  all_goals pointwise
  rotate_left
  all_goals try (after_reads_at; done)
  all_goals try (after_reads_at; rfl)
  exact slabs (fun ky kx => W0 m ρ c (Proc.devRef .tc main_arg9) (ix4 k (⟨o.val % 3, Nat.mod_lt _ (by decide)⟩ : Fin 3) ky kx)) p dy dx _ hp

end Cert.KernelIdeal.Weights

end
-- ==== Proof.Stats.lean ====
/- The first call of the kernel: over a 4 by 12 grid of 32-row strips it adds up the first convolution and its square over
   all pixels. One strip adds its own rows' sums (`out_first_sum` … `out_next_sq`), and after the last strip the two result arrays
   hold the sums over all images, rows and columns. -/
module

public import proofs.«01_k».proof.Proof.Gen.KernelIdeal.Frame
public import proofs.«01_k».proof.Proof.Spec
public import proofs.«01_k».proof.Proof.Reduce
public import Idealize.ShloMosaic.Lib.Pipeline.Value
public import Idealize.ShloMosaic.Lib.Pipeline.ValueKit
public import Idealize.ShloMosaic.Lib.Pointwise
public import Idealize.ShloMosaic.Lib.Tactic

@[expose] public section

noncomputable section

namespace Cert.KernelIdeal.Stats

open Cert.KernelIdeal Cert.KernelIdeal.Gen Cert.Net Idealize.ShloMosaic Idealize.ShloMosaic.TcCoe Idealize.SL.Sem
open Idealize.ShloMosaic.Pipeline (Dat)

/-- Two zero offsets are the zero offset. -/
theorem hz : (![0, 0] : Fin 2 → Nat) = fun _ => 0 := funext fun a => by fin_cases a <;> rfl

/-- The row a strip's load starts at: the strip `n`, the offset 1 and the tap `d`. -/
theorem row_word (n : Fin 12) (d : ℕ) (hd : d < 3) :
    BitVec.toNat (Scalar.indexCast (Scalar.addi (Scalar.addi (Scalar.muli (BitVec.ofNat 32 n) 32#32) 1#32) (BitVec.ofNat 32 d)))
      = 32 * n + 1 + d := by
  have := n.isLt
  simp only [Scalar.indexCast, Scalar.addi, Scalar.muli, IntOp.addi, IntOp.muli, BitVec.toNat_add, BitVec.toNat_mul, BitVec.toNat_ofNat]
  omega

/-- A strip's row, read one row lower. -/
theorem row_one (n r : ℕ) : 32 * n + 1 + 1 + r = 32 * n + 1 + r + 1 := by omega
/-- A strip's row, read two rows lower. -/
theorem row_two (n r : ℕ) : 32 * n + 1 + 2 + r = 32 * n + 1 + r + 2 := by omega
/-- The order of a column sum, by one. -/
theorem col_one (q : ℕ) : 1 + q = q + 1 := by omega
/-- The order of a column sum, by two. -/
theorem col_two (q : ℕ) : 2 + q = q + 1 + 1 := by omega
/-- The order of a column sum, by three. -/
theorem col_three (q : ℕ) : 3 + q = q + 1 + 2 := by omega

section Strip

variable (c : Dev nD) (i : grid0.Coords) (a2 : Memref sig .tc .vmem S1x388x3x388 .f32) (h2 : a2.IsWhole)
  (a3 : Memref sig .tc .vmem S3x3x3x64 .f32) (h3 : a3.IsWhole)
  (a4 : Memref sig .tc .vmem S1x64 .f32) (h4 : a4.IsWhole)
  (a5 : Memref sig .tc .vmem S1x64 .f32) (h5 : a5.IsWhole)
  (x0 : Vec Ideal S1x388x3x388 .f32) (x1 : Vec Ideal S3x3x3x64 .f32) (xo2 xo3 : Vec Ideal S1x64 .f32)
  (X : Fin 3 → ℕ → ℕ → EReal) (w : Fin 64 → Fin 3 → Fin 3 → Fin 3 → EReal)
  (hX : ∀ p k q, x0 (ix4 0 p k q) = X k p.val q.val) (hw : ∀ dy dx k o, x1 (ix4 dy dx k o) = w o k dy dx)

include hX hw

/-- At the first strip the sum is that strip's own. -/
theorem out_first_sum (hc0 : cond0_0 i) (o : Fin 64) :
    out0_A_2 c i a2 h2 a3 h3 a4 h4 a5 h5 hc0 x0 x1 (ix2 0 o)
      = ∑ r : Fin 32, ∑ q : Fin 384, conv X (w o) (32 * (i 1).val + 1 + r) (q + 1) := by
  unfold out0_A_2
  rw [View.read_writes_eq_canon _ _ _ (cover0_A_2 c i a2 h2 a3 h3 a4 h4 a5 h5 hc0 x0 x1)]
  unfold kernelRun0_A
  dsimp only
  sl_unfold_words
  rw [View.canon_cons_unit_zero (S := S1x64) hz, View.readCov_unit_zero (S := S1x64) _ hz]
  simp only [View.readAt_eq_ld, h2.read_unread, h3.read_unread, h4.read_unread, h5.read_unread]
  have e0 := row_word (i 1) 0 (by decide)
  have e1 := row_word (i 1) 1 (by decide)
  have e2 := row_word (i 1) 2 (by decide)
  pointwise [k0_pay1, k0_pay2, k0_pay3, k0_pay4, k0_pay10, k0_pay9, k0_pay8, k0_pay7, k0_pay6, k0_pay5, reduceAdd_leading]
  simp only [hX, hw, e0, e1, e2, conv_nine, add_zero, row_one, row_two, col_one, col_two, col_three]

/-- At the first strip the sum of squares is that strip's own. -/
theorem out_first_sq (hc0 : cond0_0 i) (o : Fin 64) :
    out0_A_3 c i a2 h2 a3 h3 a4 h4 a5 h5 hc0 x0 x1 (ix2 0 o)
      = ∑ r : Fin 32, ∑ q : Fin 384, conv X (w o) (32 * (i 1).val + 1 + r) (q + 1)
          * conv X (w o) (32 * (i 1).val + 1 + r) (q + 1) := by
  unfold out0_A_3
  rw [View.read_writes_eq_canon _ _ _ (cover0_A_3 c i a2 h2 a3 h3 a4 h4 a5 h5 hc0 x0 x1)]
  unfold kernelRun0_A
  dsimp only
  sl_unfold_words
  rw [View.canon_cons_unit_zero (S := S1x64) hz, View.readCov_unit_zero (S := S1x64) _ hz]
  simp only [View.readAt_eq_ld, h2.read_unread, h3.read_unread, h4.read_unread, h5.read_unread]
  have e0 := row_word (i 1) 0 (by decide)
  have e1 := row_word (i 1) 1 (by decide)
  have e2 := row_word (i 1) 2 (by decide)
  pointwise [k0_pay1, k0_pay2, k0_pay3, k0_pay4, k0_pay10, k0_pay9, k0_pay8, k0_pay7, k0_pay6, k0_pay5, reduceAdd_leading]
  simp only [hX, hw, e0, e1, e2, conv_nine, add_zero, row_one, row_two, col_one, col_two, col_three]

/-- A later strip adds its own sum. -/
theorem out_next_sum (hc0 : ¬cond0_0 i) (o : Fin 64) :
    out0_B_2 c i a2 h2 a3 h3 a4 h4 a5 h5 hc0 x0 x1 xo2 xo3 (ix2 0 o)
      = xo2 (ix2 0 o) + ∑ r : Fin 32, ∑ q : Fin 384, conv X (w o) (32 * (i 1).val + 1 + r) (q + 1) := by
  unfold out0_B_2
  rw [View.read_writes_eq_canon _ _ _ (cover0_B_2 c i a2 h2 a3 h3 a4 h4 a5 h5 hc0 x0 x1 xo2 xo3)]
  unfold kernelRun0_B
  dsimp only
  rw [View.canon_unit_zero hz]
  sl_unfold_words
  simp only [View.readAt_eq_ld, h2.read_unread, h3.read_unread, h4.read_unread, h5.read_unread]
  have e0 := row_word (i 1) 0 (by decide)
  have e1 := row_word (i 1) 1 (by decide)
  have e2 := row_word (i 1) 2 (by decide)
  pointwise [k0_pay1, k0_pay2, k0_pay3, k0_pay4, k0_pay10, k0_pay9, k0_pay8, k0_pay7, k0_pay6, k0_pay5, reduceAdd_leading]
  simp only [hX, hw, e0, e1, e2, conv_nine, add_zero, row_one, row_two, col_one, col_two, col_three]

/-- A later strip adds its own sum of squares. -/
theorem out_next_sq (hc0 : ¬cond0_0 i) (o : Fin 64) :
    out0_B_3 c i a2 h2 a3 h3 a4 h4 a5 h5 hc0 x0 x1 xo2 xo3 (ix2 0 o)
      = xo3 (ix2 0 o) + ∑ r : Fin 32, ∑ q : Fin 384, conv X (w o) (32 * (i 1).val + 1 + r) (q + 1)
          * conv X (w o) (32 * (i 1).val + 1 + r) (q + 1) := by
  unfold out0_B_3
  rw [View.read_writes_eq_canon _ _ _ (cover0_B_3 c i a2 h2 a3 h3 a4 h4 a5 h5 hc0 x0 x1 xo2 xo3)]
  unfold kernelRun0_B
  dsimp only
  rw [View.canon_unit_zero hz]
  sl_unfold_words
  simp only [View.readAt_eq_ld, h2.read_unread, h3.read_unread, h4.read_unread, h5.read_unread]
  have e0 := row_word (i 1) 0 (by decide)
  have e1 := row_word (i 1) 1 (by decide)
  have e2 := row_word (i 1) 2 (by decide)
  pointwise [k0_pay1, k0_pay2, k0_pay3, k0_pay4, k0_pay10, k0_pay9, k0_pay8, k0_pay7, k0_pay6, k0_pay5, reduceAdd_leading]
  simp only [hX, hw, e0, e1, e2, conv_nine, add_zero, row_one, row_two, col_one, col_two, col_three]

end Strip

section Array

variable (V : (c : Dev nD) → (b : Ref sig .tc) → Buf (Elt Ideal) ((c : Thread nD τ).loc b)) (c : Dev nD)

/-- Where a point of the 4 by 12 grid is: its image and its strip. -/
theorem point_image (t : Fin cfg0.N) : ((grid0.coords t) 0).val = t.val / 12 % 4 := Pipeline.Grid.coords_val t 0 (by decide) rfl
/-- A grid step's strip. -/
theorem point_strip (t : Fin cfg0.N) : ((grid0.coords t) 1).val = t.val % 12 := by
  rw [Pipeline.Grid.coords_val t 1 (S := 1) (B := 12) (by decide) rfl, Nat.div_one]

/-- The last point. -/
def lastPoint : Fin cfg0.N := ⟨47, by decide⟩

/-- The padded image's block: the whole of the step's image. -/
theorem idx_image (t : Fin cfg0.N) :
    win0_0.index t 0 = t.val / 12 % 4 ∧ win0_0.index t 1 = 0 ∧ win0_0.index t 2 = 0 ∧ win0_0.index t 3 = 0 := by
  revert t; decide +kernel

/-- The weights have one block. -/
theorem idx_weights (t : Fin cfg0.N) :
    win0_1.index t 0 = 0 ∧ win0_1.index t 1 = 0 ∧ win0_1.index t 2 = 0 ∧ win0_1.index t 3 = 0 := by
  revert t; decide +kernel

/-- A point's first block is its image. -/
theorem block_image (t : Fin cfg0.N) (p : Fin 388) (k : Fin 3) (q : Fin 388) :
    iblk0 V c 0 t (ix4 0 p k q) = V c main_v1 (ix4 ⟨t.val / 12 % 4, Nat.mod_lt _ (by decide)⟩ p k q) := by
  blk_ext [iblk0, idx_image t]

/-- Every point's second block is the weights. -/
theorem block_weights (t : Fin cfg0.N) (dy dx k : Fin 3) (o : Fin 64) :
    iblk0 V c 1 t (ix4 dy dx k o) = V c main_v2 (ix4 dy dx k o) := by
  blk_ext [iblk0, idx_weights t]

/-- An index of a one-row array. -/
theorem row_idx {n : ℕ} (j : (⟨2, ![1, n]⟩ : Shape).Idx) : j = ix2 0 (j 1) := by
  funext a
  match a with
  | ⟨0, _⟩ => exact Subsingleton.elim (α := Fin 1) _ _
  | ⟨1, _⟩ => rfl

variable (X : Fin 4 → Fin 3 → ℕ → ℕ → EReal) (w : Fin 64 → Fin 3 → Fin 3 → Fin 3 → EReal)
  (hX : ∀ n p k q, V c main_v1 (ix4 n p k q) = X n k p.val q.val)
  (hw : ∀ dy dx k o, V c main_v2 (ix4 dy dx k o) = w o k dy dx)

/-- A sum over the points and their rows is a sum over the images and their rows. -/
theorem sum_points (f : Fin 4 → ℕ → EReal) :
    ∑ t : Fin cfg0.N, ∑ r : Fin 32, f ⟨t.val / 12 % 4, Nat.mod_lt _ (by decide)⟩ (32 * ((grid0.coords t) 1).val + 1 + r)
      = ∑ n : Fin 4, ∑ h : Fin 384, f n (h + 1) := by
  simp only [point_strip]
  refine (Finset.sum_congr rfl fun t _ => Finset.sum_congr rfl fun r _ => ?_).trans
    ((sum_rows cfg0.N N_0 fun n h => f ⟨n % 4, Nat.mod_lt _ (by decide)⟩ (h + 1)).trans ?_)
  · rw [show 32 * (t.val % 12) + 1 + r.val = 32 * (t.val % 12) + r.val + 1 by omega]
  · refine Finset.sum_congr rfl fun n _ => ?_
    simp only [Nat.mod_eq_of_lt n.isLt]

include hX hw

/-- The first result array ends holding the first convolution's sum over all pixels. -/
theorem arr_sum (o : Fin 64) :
    (dat0 V c).arrAt 2 cfg0.N (ix2 0 o) = total fun n h q => conv (X n) (w o) (h + 1) (q + 1) := by
  have key : (dat0 V c).arrAt 2 cfg0.N = fun j : S1x64.Idx => total fun n h q => conv (X n) (w (j 1)) (h + 1) (q + 1) := by
    refine (dat0 V c).arrAt_eq_of_after_last 2 lastPoint (by decide +kernel) _ fun j => ?_
    blk_simp
    rw [after0_2, Pipeline.eq_sum_fin_of_reset_step_apply_last (fun n h => (outsAt0 V c n h).1) 48 (fun _ => 0)
      (fun t j => ∑ r : Fin 32, ∑ q : Fin 384,
        conv (X ⟨t.val / 12 % 4, Nat.mod_lt _ (by decide)⟩) (w (j 1)) (32 * ((grid0.coords t) 1).val + 1 + r) (q + 1))
      (fun t h j => ?_) (fun t h j => ?_) (le_of_eq N_0) lastPoint N_0.symm j, zero_add]
    · exact sum_points fun n h => ∑ q : Fin 384, conv (X n) (w (j 1)) h (q + 1)
    · rw [outsAt0_A V c t h, row_idx j, zero_add]
      exact out_first_sum c (grid0.coords t) (ms0_0 t) (hs0_0 t) (ms0_1 t) (hs0_1 t) (ms0_2 t) (hs0_2 t) (ms0_3 t) (hs0_3 t) (iblk0 V c 0 t) (iblk0 V c 1 t)
        (X ⟨t.val / 12 % 4, Nat.mod_lt _ (by decide)⟩) w
        (fun p k q => (block_image V c t p k q).trans (hX _ p k q))
        (fun dy dx k o => (block_weights V c t dy dx k o).trans (hw dy dx k o)) ((hcond0_0 t).mpr h) (j 1)
    · rw [outsAt0_B V c t h, row_idx j]
      exact out_next_sum c (grid0.coords t) (ms0_0 t) (hs0_0 t) (ms0_1 t) (hs0_1 t) (ms0_2 t) (hs0_2 t) (ms0_3 t) (hs0_3 t) (iblk0 V c 0 t) (iblk0 V c 1 t)
        (outsAt0 V c (t.val - 1) (Nat.lt_of_le_of_lt (Nat.sub_le _ _) t.isLt)).1
        (outsAt0 V c (t.val - 1) (Nat.lt_of_le_of_lt (Nat.sub_le _ _) t.isLt)).2 (X ⟨t.val / 12 % 4, Nat.mod_lt _ (by decide)⟩) w
        (fun p k q => (block_image V c t p k q).trans (hX _ p k q))
        (fun dy dx k o => (block_weights V c t dy dx k o).trans (hw dy dx k o)) (fun h0 => h ((hcond0_0 t).mp h0)) (j 1)
  exact congrFun key (ix2 0 o)

/-- The second result array ends holding its square's sum over all pixels. -/
theorem arr_sq (o : Fin 64) :
    (dat0 V c).arrAt 3 cfg0.N (ix2 0 o) = total fun n h q => conv (X n) (w o) (h + 1) (q + 1) * conv (X n) (w o) (h + 1) (q + 1) := by
  have key : (dat0 V c).arrAt 3 cfg0.N = fun j : S1x64.Idx => total fun n h q => conv (X n) (w (j 1)) (h + 1) (q + 1) * conv (X n) (w (j 1)) (h + 1) (q + 1) := by
    refine (dat0 V c).arrAt_eq_of_after_last 3 lastPoint (by decide +kernel) _ fun j => ?_
    blk_simp
    rw [after0_3, Pipeline.eq_sum_fin_of_reset_step_apply_last (fun n h => (outsAt0 V c n h).2) 48 (fun _ => 0)
      (fun t j => ∑ r : Fin 32, ∑ q : Fin 384,
        conv (X ⟨t.val / 12 % 4, Nat.mod_lt _ (by decide)⟩) (w (j 1)) (32 * ((grid0.coords t) 1).val + 1 + r) (q + 1)
          * conv (X ⟨t.val / 12 % 4, Nat.mod_lt _ (by decide)⟩) (w (j 1)) (32 * ((grid0.coords t) 1).val + 1 + r) (q + 1))
      (fun t h j => ?_) (fun t h j => ?_) (le_of_eq N_0) lastPoint N_0.symm j, zero_add]
    · exact sum_points fun n h => ∑ q : Fin 384, conv (X n) (w (j 1)) h (q + 1) * conv (X n) (w (j 1)) h (q + 1)
    · rw [outsAt0_A V c t h, row_idx j, zero_add]
      exact out_first_sq c (grid0.coords t) (ms0_0 t) (hs0_0 t) (ms0_1 t) (hs0_1 t) (ms0_2 t) (hs0_2 t) (ms0_3 t) (hs0_3 t) (iblk0 V c 0 t) (iblk0 V c 1 t)
        (X ⟨t.val / 12 % 4, Nat.mod_lt _ (by decide)⟩) w
        (fun p k q => (block_image V c t p k q).trans (hX _ p k q))
        (fun dy dx k o => (block_weights V c t dy dx k o).trans (hw dy dx k o)) ((hcond0_0 t).mpr h) (j 1)
    · rw [outsAt0_B V c t h, row_idx j]
      exact out_next_sq c (grid0.coords t) (ms0_0 t) (hs0_0 t) (ms0_1 t) (hs0_1 t) (ms0_2 t) (hs0_2 t) (ms0_3 t) (hs0_3 t) (iblk0 V c 0 t) (iblk0 V c 1 t)
        (outsAt0 V c (t.val - 1) (Nat.lt_of_le_of_lt (Nat.sub_le _ _) t.isLt)).1
        (outsAt0 V c (t.val - 1) (Nat.lt_of_le_of_lt (Nat.sub_le _ _) t.isLt)).2 (X ⟨t.val / 12 % 4, Nat.mod_lt _ (by decide)⟩) w
        (fun p k q => (block_image V c t p k q).trans (hX _ p k q))
        (fun dy dx k o => (block_weights V c t dy dx k o).trans (hw dy dx k o)) (fun h0 => h ((hcond0_0 t).mp h0)) (j 1)
  exact congrFun key (ix2 0 o)

end Array

end Cert.KernelIdeal.Stats

end
-- ==== Proof.Masks.lean ====
/- The kernel's masks and its named constant: a selection by a mask word is a selection by the proposition that the word
   encodes, the two border masks as propositions on positions, and the reciprocal of the number of pixels. -/
module

public import proofs.«01_k».proof.Proof.Gen.KernelIdeal.Skeleton
public import proofs.«01_k».proof.Proof.Spec
public import Idealize.ShloMosaic.Lib.Affine
public import Idealize.ShloMosaic.Lib.Pointwise

@[expose] public section

noncomputable section

namespace Cert.KernelIdeal.Masks

open Cert.KernelIdeal Cert.KernelIdeal.Gen Cert.Net Idealize.ShloMosaic

/-- A selection by a word that is one exactly where `P` holds. -/
theorem select_iff {α : Type} (c : BitVec 1) (P : Prop) [Decidable P] (h : c = 1#1 ↔ P) (a b : α) :
    Scalar.select c a b = if P then a else b := by
  unfold Scalar.select
  by_cases hP : P
  · rw [if_pos hP]; exact if_pos (h.mpr hP)
  · rw [if_neg hP]; exact if_neg fun e => hP (h.mp e)

/-- A small number as a signed word. -/
theorem toInt_small (k : ℕ) (hk : k < 2 ^ 31) : (BitVec.ofNat 32 k).toInt = k := by
  rw [BitVec.toInt_eq_toNat_cond, BitVec.toNat_ofNat, Nat.mod_eq_of_lt (by omega), if_pos (by omega)]

/-- The row of a strip's padded block in the image, counted from minus one. -/
theorem toInt_row (s : BitVec 32) (k n r : ℕ) (hs : s.toNat = k * n) (hk : k * n < 1000) (hr : r < 1000) :
    (IntOp.addi (BitVec.ofNat 32 r) (Scalar.subi s 1#32)).toInt = (k * n + r : ℤ) - 1 := by
  have e : (IntOp.addi (BitVec.ofNat 32 r) (Scalar.subi s 1#32)).toNat = (r + (2 ^ 32 - 1 + k * n)) % 2 ^ 32 := by
    simp only [IntOp.addi, Scalar.subi, IntOp.subi, BitVec.toNat_add, BitVec.toNat_sub, BitVec.toNat_ofNat, hs]
    omega
  rw [BitVec.toInt_eq_toNat_cond, e]
  have : ((k * n : ℕ) : ℤ) = k * n := by push_cast; rfl
  split <;> omega

/-- The border mask of an `a` by `b` image: row and column of the padded image inside the image. -/
theorem border (s : BitVec 32) (k n r y a b : ℕ) (hs : s.toNat = k * n) (hk : k * n < 1000) (hr : r < 1000) (hy : y < 1000)
    (ha : a < 1000) (hb : b < 1000) :
    IntOp.andi (IntOp.andi (IntOp.andi
        (IntOp.cmpi .sge (IntOp.addi (BitVec.ofNat 32 r) (Scalar.subi s 1#32)) 0#32)
        (IntOp.cmpi .slt (IntOp.addi (BitVec.ofNat 32 r) (Scalar.subi s 1#32)) (BitVec.ofNat 32 a)))
        (IntOp.cmpi .sge (BitVec.ofNat 32 y) 1#32))
        (IntOp.cmpi .slt (BitVec.ofNat 32 y) (BitVec.ofNat 32 (b + 1))) = 1#1
      ↔ (1 ≤ k * n + r ∧ k * n + r ≤ a) ∧ (1 ≤ y ∧ y ≤ b) := by
  rw [IntOp.andi_eq_one, IntOp.andi_eq_one, IntOp.andi_eq_one, IntOp.cmpi_sge, IntOp.cmpi_slt, IntOp.cmpi_sge, IntOp.cmpi_slt,
    toInt_row s k n r hs hk hr, toInt_small y (by omega), toInt_small a (by omega), toInt_small (b + 1) (by omega)]
  have h0 : (0#32 : BitVec 32).toInt = 0 := rfl
  have h1 : (1#32 : BitVec 32).toInt = 1 := rfl
  rw [h0, h1]
  have : ((k * n : ℕ) : ℤ) = k * n := by push_cast; rfl
  push_cast
  omega

/-- The product of a strip's number and the strip's height, as a word. -/
theorem strip_word (k n : ℕ) (hn : n < 1000) (hk : k < 1000) : (Scalar.muli (BitVec.ofNat 32 n) (BitVec.ofNat 32 k)).toNat = k * n := by
  have : k * n ≤ 1000 * 1000 := Nat.mul_le_mul hk.le hn.le
  have : n * k = k * n := Nat.mul_comm _ _
  simp only [Scalar.muli, IntOp.muli, BitVec.toNat_mul, BitVec.toNat_ofNat]
  rw [Nat.mod_eq_of_lt (a := n) (by omega), Nat.mod_eq_of_lt (a := k) (by omega), Nat.mod_eq_of_lt (by omega)]
  omega

/-- The named constant is the reciprocal of the number of pixels. -/
theorem named_inv : Named.named (F := Ideal) κ "npix_inv" (φ := .f32) 0x35E38E39#32 = invPix := rfl

end Cert.KernelIdeal.Masks

end
-- ==== Proof.MidBody.lean ====
/- What one strip of the kernel's second call computes: the first convolution normalised, cut off below zero and masked to
   the image (`hidden_apply`), the second convolution of that (`second_apply`), and its sums and two-by-two maxima. -/
module

public import proofs.«01_k».proof.Proof.Gen.KernelIdeal.Frame
public import proofs.«01_k».proof.Proof.Spec
public import proofs.«01_k».proof.Proof.Reduce
public import proofs.«01_k».proof.Proof.Masks
public import Idealize.ShloMosaic.Lib.Pipeline.Value
public import Idealize.ShloMosaic.Lib.Pipeline.ValueKit
public import Idealize.ShloMosaic.Lib.Pointwise
public import Idealize.ShloMosaic.Lib.Tactic

@[expose] public section

noncomputable section

namespace Cert.KernelIdeal.Mid
open Cert.KernelIdeal Cert.KernelIdeal.Gen Cert.Net Cert.KernelIdeal.Masks Idealize.ShloMosaic Idealize.ShloMosaic.TcCoe Idealize.SL.Sem
open Idealize.ShloMosaic.Pipeline (Dat)

/-- Two zero offsets are the zero offset. -/
theorem hz : (![0, 0] : Fin 2 → Nat) = fun _ => 0 := funext fun a => by fin_cases a <;> rfl

/-- Four zero offsets are the zero offset. -/
theorem hz4 : (![0, 0, 0, 0] : Fin 4 → Nat) = fun _ => 0 := funext fun a => by fin_cases a <;> rfl

/-- The hidden layer on a strip with one row and one column of border. -/
theorem hidden_apply (n : Fin 12) (X : Fin 3 → ℕ → ℕ → EReal) (w : Fin 64 → Fin 3 → Fin 3 → Fin 3 → EReal) (s q g be : Fin 64 → EReal)
    (v1 v5 v14 v17 : Vec Ideal S1x64 .f32) (h1 : ∀ o, v1 (ix2 0 o) = s o) (h5 : ∀ o, v5 (ix2 0 o) = q o)
    (h14 : ∀ o, v14 (ix2 0 o) = g o) (h17 : ∀ o, v17 (ix2 0 o) = be o)
    (l00 l01 l02 l10 l11 l12 l20 l21 l22 : Vec Ideal S1x34x3x386 .f32) (u00 u01 u02 u10 u11 u12 u20 u21 u22 : Vec Ideal S1x1x3x64 .f32)
    (hl00 : ∀ r k q, l00 (ix4 0 r k q) = X k (32 * n.val + r) (q.val)) (hu00 : ∀ k o, u00 (ix4 0 0 k o) = w o k 0 0)
    (hl01 : ∀ r k q, l01 (ix4 0 r k q) = X k (32 * n.val + r) (q.val + 1)) (hu01 : ∀ k o, u01 (ix4 0 0 k o) = w o k 0 1)
    (hl02 : ∀ r k q, l02 (ix4 0 r k q) = X k (32 * n.val + r) (q.val + 2)) (hu02 : ∀ k o, u02 (ix4 0 0 k o) = w o k 0 2)
    (hl10 : ∀ r k q, l10 (ix4 0 r k q) = X k (32 * n.val + r + 1) (q.val)) (hu10 : ∀ k o, u10 (ix4 0 0 k o) = w o k 1 0)
    (hl11 : ∀ r k q, l11 (ix4 0 r k q) = X k (32 * n.val + r + 1) (q.val + 1)) (hu11 : ∀ k o, u11 (ix4 0 0 k o) = w o k 1 1)
    (hl12 : ∀ r k q, l12 (ix4 0 r k q) = X k (32 * n.val + r + 1) (q.val + 2)) (hu12 : ∀ k o, u12 (ix4 0 0 k o) = w o k 1 2)
    (hl20 : ∀ r k q, l20 (ix4 0 r k q) = X k (32 * n.val + r + 2) (q.val)) (hu20 : ∀ k o, u20 (ix4 0 0 k o) = w o k 2 0)
    (hl21 : ∀ r k q, l21 (ix4 0 r k q) = X k (32 * n.val + r + 2) (q.val + 1)) (hu21 : ∀ k o, u21 (ix4 0 0 k o) = w o k 2 1)
    (hl22 : ∀ r k q, l22 (ix4 0 r k q) = X k (32 * n.val + r + 2) (q.val + 2)) (hu22 : ∀ k o, u22 (ix4 0 0 k o) = w o k 2 2)
    (r : Fin 34) (y : Fin 386) (o : Fin 64) :
    k1_pay9 (Scalar.muli (BitVec.ofNat 32 n) 32#32) (k1_pay2 v1 v5 v14) (k1_pay3 v1 v5 v14 v17)
      (k1_pay8 (k1_pay5 (k1_pay4 l00 u00) l01 u01 l02 u02 l10 u10) (k1_pay6 l11) (k1_pay7 u11)
        (constant S34x386x64 FTy.f32 0#32) l12 u12 l20 u20 l21 u21) l22 u22 (ix3 r y o)
      = inside 384 384 (fun p y => act (s o) (q o) (g o) (be o) (conv X (w o) p y)) (32 * n + r) y := by
  pointwise [k1_pay9, k1_pay8, k1_pay7, k1_pay6, k1_pay5, k1_pay4, k1_pay3, k1_pay2, k1_pay1]
  simp only [h1, h5, h14, h17, hl00, hu00, hl01, hu01, hl02, hu02, hl10, hu10, hl11, hu11, hl12, hu12, hl20, hu20, hl21, hu21, hl22, hu22, ← conv_nine]
  rw [select_iff _ _ (border _ 32 n r y 384 384 (strip_word 32 n (by omega) (by decide)) (by omega) (by omega) (by omega) (by decide) (by decide))]
  rfl
/-- The second convolution, over a strip whose hidden rows read `H` from the position `p`. -/
theorem second_apply (H : Fin 64 → ℕ → ℕ → EReal) (w : Fin 64 → Fin 3 → Fin 3 → EReal) (p : ℕ)
    (v0 : BitVec 32) (v16 v20 : FVec Ideal S64 .f32) (v85 : FVec Ideal S34x386x64 .f32) (v88 : Vec Ideal S1x34x3x386 .f32) (v90 : Vec Ideal S1x1x3x64 .f32)
    (hH : ∀ r y o, k1_pay9 v0 v16 v20 v85 v88 v90 (ix3 r y o) = H o (p + r) y)
    (u00 u01 u02 u10 u11 u12 u20 u21 u22 : Vec Ideal S1x1x64x128 .f32) (r : Fin 32) (y : Fin 384) (o : Fin 128)
    (hu00 : ∀ k, u00 (ix4 0 0 k o) = w k 0 0)
    (hu01 : ∀ k, u01 (ix4 0 0 k o) = w k 0 1)
    (hu02 : ∀ k, u02 (ix4 0 0 k o) = w k 0 2)
    (hu10 : ∀ k, u10 (ix4 0 0 k o) = w k 1 0)
    (hu11 : ∀ k, u11 (ix4 0 0 k o) = w k 1 1)
    (hu12 : ∀ k, u12 (ix4 0 0 k o) = w k 1 2)
    (hu20 : ∀ k, u20 (ix4 0 0 k o) = w k 2 0)
    (hu21 : ∀ k, u21 (ix4 0 0 k o) = w k 2 1)
    (hu22 : ∀ k, u22 (ix4 0 0 k o) = w k 2 2) :
    k1_pay14 (k1_pay9 v0 v16 v20 v85 v88 v90)
      (k1_pay12 (k1_pay9 v0 v16 v20 v85 v88 v90) (k1_pay10 v0 v16 v20 v85 v88 v90 u00) (k1_pay11 v0 v16 v20 v85 v88 v90)
        u01 u02 u10 u11 u12 u20)
      (k1_pay13 (k1_pay9 v0 v16 v20 v85 v88 v90)) u21 u22 (ix3 r y o)
      = conv H w (p + r) y := by
  pointwise [k1_pay14, k1_pay13, k1_pay12, k1_pay11, k1_pay10, hH]
  simp only [hu00, hu01, hu02, hu10, hu11, hu12, hu20, hu21, hu22, conv_nine]
  simp only [Nat.add_comm 1, Nat.add_comm 2, Nat.add_assoc]

/-- The two-by-two maxima that a strip stores. -/
theorem pool_apply (f : ℕ → ℕ → EReal) (v121 : FVec Ideal S34x386x64 .f32) (v157 : FVec Ideal S32x384x128 .f32) (v158 : FVec Ideal S32x384x64 .f32)
    (v159 v164 : Vec Ideal S1x1x64x128 .f32) (m : Fin 16) (k : Fin 192) (o : Fin 128)
    (hf : ∀ r y, k1_pay14 v121 v157 v158 v159 v164 (ix3 r y o) = f r y) :
    k1_pay19 v121 v157 v158 v159 v164 (ix4 0 m k o) = maxOfFour f m k := by
  pointwise [k1_pay19]
  rw [show Ideal.ofBits .f32 4286578688#32 = ⊥ from rfl]
  refine (foldMax_squares reduces_S16x2x192x2x128_S16x192x128 _ m k o).trans ?_
  refine (congrArg₂ max (congrArg₂ max (hf _ _) (hf _ _)) (congrArg₂ max (hf _ _) (hf _ _))).trans ?_
  change max (max (f (m * 2 + 0) (k * 2 + 0)) (f (m * 2 + 0) (k * 2 + 1)))
    (max (f (m * 2 + 1) (k * 2 + 0)) (f (m * 2 + 1) (k * 2 + 1))) = _
  simp only [maxOfFour, Nat.mul_comm, Nat.add_zero]

/-- What a strip adds to the second convolution's sum. -/
theorem sum_apply (f : ℕ → ℕ → EReal) (v121 : FVec Ideal S34x386x64 .f32) (v157 : FVec Ideal S32x384x128 .f32) (v158 : FVec Ideal S32x384x64 .f32)
    (v159 v164 : Vec Ideal S1x1x64x128 .f32) (v178 : Vec Ideal S1x128 .f32) (o : Fin 128)
    (hf : ∀ r y, k1_pay14 v121 v157 v158 v159 v164 (ix3 r y o) = f r y) :
    k1_pay17 v121 v157 v158 v159 v164 v178 (ix2 0 o) = v178 (ix2 0 o) + ∑ r : Fin 32, ∑ y : Fin 384, f r y := by
  pointwise [k1_pay17, reduceAdd_leading, hf]

/-- What a strip adds to its square's sum. -/
theorem sq_apply (f : ℕ → ℕ → EReal) (v121 : FVec Ideal S34x386x64 .f32) (v157 : FVec Ideal S32x384x128 .f32) (v158 : FVec Ideal S32x384x64 .f32)
    (v159 v164 : Vec Ideal S1x1x64x128 .f32) (v178 : Vec Ideal S1x128 .f32) (o : Fin 128)
    (hf : ∀ r y, k1_pay14 v121 v157 v158 v159 v164 (ix3 r y o) = f r y) :
    k1_pay18 v121 v157 v158 v159 v164 v178 (ix2 0 o) = v178 (ix2 0 o) + ∑ r : Fin 32, ∑ y : Fin 384, f r y * f r y := by
  pointwise [k1_pay18, reduceAdd_leading, hf]

end Cert.KernelIdeal.Mid

end
-- ==== Proof.Mid.lean ====
/- The kernel's second call: over the 4 by 12 grid of 32-row strips it stores the second convolution's two-by-two maxima
   and adds up the second convolution and its square over all pixels. -/
module

public import proofs.«01_k».proof.Proof.Gen.KernelIdeal.Frame
public import proofs.«01_k».proof.Proof.Spec
public import proofs.«01_k».proof.Proof.Reduce
public import proofs.«01_k».proof.Proof.MidBody
public import proofs.«01_k».proof.Proof.Stats
public import Idealize.ShloMosaic.Lib.Pipeline.Value
public import Idealize.ShloMosaic.Lib.Pipeline.ValueKit
public import Idealize.ShloMosaic.Lib.Pointwise
public import Idealize.ShloMosaic.Lib.Tactic

@[expose] public section

noncomputable section

namespace Cert.KernelIdeal.Mid

open Cert.KernelIdeal Cert.KernelIdeal.Gen Cert.Net Cert.KernelIdeal.Masks Idealize.ShloMosaic Idealize.ShloMosaic.TcCoe Idealize.SL.Sem
open Idealize.ShloMosaic.Pipeline (Dat)

/-- The hidden layer as a function of the padded image, the first weights, and the first normalisation. -/
abbrev hid (X : Fin 3 → ℕ → ℕ → EReal) (w1 : Fin 64 → Fin 3 → Fin 3 → Fin 3 → EReal) (s q g be : Fin 64 → EReal) (o : Fin 64) :
    ℕ → ℕ → EReal :=
  inside 384 384 fun p y => act (s o) (q o) (g o) (be o) (conv X (w1 o) p y)

/-- The row that a strip's load starts at: the strip `n` and the tap `d`. -/
theorem row_word (n : Fin 12) (d : ℕ) (hd : d < 3) :
    BitVec.toNat (Scalar.indexCast (Scalar.addi (Scalar.muli (BitVec.ofNat 32 n) 32#32) (BitVec.ofNat 32 d))) = 32 * n + d := by
  have := n.isLt
  simp only [Scalar.indexCast, Scalar.addi, Scalar.muli, IntOp.addi, IntOp.muli, BitVec.toNat_add, BitVec.toNat_mul, BitVec.toNat_ofNat]
  omega

section Strip

variable (c : Dev nD) (i : grid1.Coords)
  (a2 : Memref sig .tc .vmem S1x388x3x388 .f32) (h2 : a2.IsWhole)
  (a3 : Memref sig .tc .vmem S3x3x3x64 .f32) (h3 : a3.IsWhole)
  (a4 : Memref sig .tc .vmem S3x3x64x128 .f32) (h4 : a4.IsWhole)
  (a5 : Memref sig .tc .vmem S1x64 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x64 .f32) (h8 : a8.IsWhole)
  (a9 : Memref sig .tc .vmem S1x16x192x128 .f32) (h9 : a9.IsWhole)
  (a10 : Memref sig .tc .vmem S1x128 .f32) (h10 : a10.IsWhole)
  (a11 : Memref sig .tc .vmem S1x128 .f32) (h11 : a11.IsWhole)
  (x0 : Vec Ideal S1x388x3x388 .f32) (x1 : Vec Ideal S3x3x3x64 .f32) (x2 : Vec Ideal S3x3x64x128 .f32) (x3 : Vec Ideal S1x64 .f32) (x4 : Vec Ideal S1x64 .f32) (x5 : Vec Ideal S1x64 .f32) (x6 : Vec Ideal S1x64 .f32) (xo8 xo9 : Vec Ideal S1x128 .f32)
  (X : Fin 3 → ℕ → ℕ → EReal) (w1 : Fin 64 → Fin 3 → Fin 3 → Fin 3 → EReal) (w2 : Fin 128 → Fin 64 → Fin 3 → Fin 3 → EReal)
  (s q g be : Fin 64 → EReal)
  (hX : ∀ p k q, x0 (ix4 0 p k q) = X k p.val q.val) (hw1 : ∀ dy dx k o, x1 (ix4 dy dx k o) = w1 o k dy dx)
  (hw2 : ∀ dy dx k o, x2 (ix4 dy dx k o) = w2 o k dy dx)
  (hg : ∀ o, x3 (ix2 0 o) = g o) (hbe : ∀ o, x4 (ix2 0 o) = be o) (hs : ∀ o, x5 (ix2 0 o) = s o) (hq : ∀ o, x6 (ix2 0 o) = q o)

include hX hw1 hw2 hg hbe hs hq

/-- The maxima that a strip stores. -/
theorem first_pool (hc0 : cond1_0 i) (m : Fin 16) (k : Fin 192) (o : Fin 128) :
    out1_A_7 c i a2 h2 a3 h3 a4 h4 a5 h5 a6 h6 a7 h7 a8 h8 a9 h9 a10 h10 a11 h11 hc0 x0 x1 x2 x3 x4 x5 x6 (ix4 0 m k o)
      = maxOfFour (fun r y => conv (hid X w1 s q g be) (w2 o) (32 * (i 1).val + r) y) m k := by
  unfold out1_A_7
  rw [View.read_writes_eq_canon _ _ _ (cover1_A_7 c i a2 h2 a3 h3 a4 h4 a5 h5 a6 h6 a7 h7 a8 h8 a9 h9 a10 h10 a11 h11 hc0 x0 x1 x2 x3 x4 x5 x6)]
  unfold kernelRun1_A
  dsimp only
  rw [View.canon_unit_zero hz4]
  sl_unfold_words
  simp only [View.readAt_eq_ld, h2.read_unread, h3.read_unread, h4.read_unread, h5.read_unread, h6.read_unread, h7.read_unread, h8.read_unread, h9.read_unread, h10.read_unread, h11.read_unread]
  have e0 := row_word (i 1) 0 (by decide)
  have e1 := row_word (i 1) 1 (by decide)
  have e2 := row_word (i 1) 2 (by decide)
  refine pool_apply (fun r y => conv (hid X w1 s q g be) (w2 o) (32 * (i 1).val + r) y) _ _ _ _ _ m k o fun r y => second_apply (hid X w1 s q g be) (w2 o) (32 * (i 1).val) _ _ _ _ _ _
    (fun r y o => hidden_apply (i 1) X w1 s q g be _ _ _ _ ?_ ?_ ?_ ?_ _ _ _ _ _ _ _ _ _ _ _ _ _ _ _ _ _ _ ?_ ?_ ?_ ?_ ?_ ?_ ?_ ?_ ?_ ?_ ?_ ?_ ?_ ?_ ?_ ?_ ?_ ?_ r y o)
    _ _ _ _ _ _ _ _ _ r y o ?_ ?_ ?_ ?_ ?_ ?_ ?_ ?_ ?_
  all_goals intros
  all_goals pointwise [k1_pay15, k1_pay16]
  all_goals try simp only [hX, hw1, hw2, hg, hbe, hs, hq, e0, e1, e2, zero_add]
  all_goals exact congrArg₂ (X _) (by omega) (by omega)

/-- At the first strip the sum is that strip's own. -/
theorem first_sum (hc0 : cond1_0 i) (o : Fin 128) :
    out1_A_8 c i a2 h2 a3 h3 a4 h4 a5 h5 a6 h6 a7 h7 a8 h8 a9 h9 a10 h10 a11 h11 hc0 x0 x1 x2 x3 x4 x5 x6 (ix2 0 o)
      = ∑ r : Fin 32, ∑ y : Fin 384, conv (hid X w1 s q g be) (w2 o) (32 * (i 1).val + r) y := by
  unfold out1_A_8
  rw [View.read_writes_eq_canon _ _ _ (cover1_A_8 c i a2 h2 a3 h3 a4 h4 a5 h5 a6 h6 a7 h7 a8 h8 a9 h9 a10 h10 a11 h11 hc0 x0 x1 x2 x3 x4 x5 x6)]
  unfold kernelRun1_A
  dsimp only
  sl_unfold_words
  rw [View.canon_cons_unit_zero (S := S1x128) hz, View.readCov_unit_zero (S := S1x128) _ hz]
  simp only [View.readAt_eq_ld, h2.read_unread, h3.read_unread, h4.read_unread, h5.read_unread, h6.read_unread, h7.read_unread, h8.read_unread, h9.read_unread, h10.read_unread, h11.read_unread]
  have e0 := row_word (i 1) 0 (by decide)
  have e1 := row_word (i 1) 1 (by decide)
  have e2 := row_word (i 1) 2 (by decide)
  refine (sum_apply (fun r y => conv (hid X w1 s q g be) (w2 o) (32 * (i 1).val + r) y) _ _ _ _ _ _ o fun r y => second_apply (hid X w1 s q g be) (w2 o) (32 * (i 1).val) _ _ _ _ _ _
    (fun r y o => hidden_apply (i 1) X w1 s q g be _ _ _ _ ?_ ?_ ?_ ?_ _ _ _ _ _ _ _ _ _ _ _ _ _ _ _ _ _ _ ?_ ?_ ?_ ?_ ?_ ?_ ?_ ?_ ?_ ?_ ?_ ?_ ?_ ?_ ?_ ?_ ?_ ?_ r y o)
    _ _ _ _ _ _ _ _ _ r y o ?_ ?_ ?_ ?_ ?_ ?_ ?_ ?_ ?_).trans ?_
  all_goals intros
  all_goals pointwise [k1_pay15, k1_pay16]
  all_goals try simp only [hX, hw1, hw2, hg, hbe, hs, hq, e0, e1, e2, zero_add]
  all_goals exact congrArg₂ (X _) (by omega) (by omega)

/-- At the first strip the sum of squares is that strip's own. -/
theorem first_sq (hc0 : cond1_0 i) (o : Fin 128) :
    out1_A_9 c i a2 h2 a3 h3 a4 h4 a5 h5 a6 h6 a7 h7 a8 h8 a9 h9 a10 h10 a11 h11 hc0 x0 x1 x2 x3 x4 x5 x6 (ix2 0 o)
      = ∑ r : Fin 32, ∑ y : Fin 384, conv (hid X w1 s q g be) (w2 o) (32 * (i 1).val + r) y
          * conv (hid X w1 s q g be) (w2 o) (32 * (i 1).val + r) y := by
  unfold out1_A_9
  rw [View.read_writes_eq_canon _ _ _ (cover1_A_9 c i a2 h2 a3 h3 a4 h4 a5 h5 a6 h6 a7 h7 a8 h8 a9 h9 a10 h10 a11 h11 hc0 x0 x1 x2 x3 x4 x5 x6)]
  unfold kernelRun1_A
  dsimp only
  sl_unfold_words
  rw [View.canon_cons_unit_zero (S := S1x128) hz, View.readCov_unit_zero (S := S1x128) _ hz]
  simp only [View.readAt_eq_ld, h2.read_unread, h3.read_unread, h4.read_unread, h5.read_unread, h6.read_unread, h7.read_unread, h8.read_unread, h9.read_unread, h10.read_unread, h11.read_unread]
  have e0 := row_word (i 1) 0 (by decide)
  have e1 := row_word (i 1) 1 (by decide)
  have e2 := row_word (i 1) 2 (by decide)
  refine (sq_apply (fun r y => conv (hid X w1 s q g be) (w2 o) (32 * (i 1).val + r) y) _ _ _ _ _ _ o fun r y => second_apply (hid X w1 s q g be) (w2 o) (32 * (i 1).val) _ _ _ _ _ _
    (fun r y o => hidden_apply (i 1) X w1 s q g be _ _ _ _ ?_ ?_ ?_ ?_ _ _ _ _ _ _ _ _ _ _ _ _ _ _ _ _ _ _ ?_ ?_ ?_ ?_ ?_ ?_ ?_ ?_ ?_ ?_ ?_ ?_ ?_ ?_ ?_ ?_ ?_ ?_ r y o)
    _ _ _ _ _ _ _ _ _ r y o ?_ ?_ ?_ ?_ ?_ ?_ ?_ ?_ ?_).trans ?_
  all_goals intros
  all_goals pointwise [k1_pay15, k1_pay16]
  all_goals try simp only [hX, hw1, hw2, hg, hbe, hs, hq, e0, e1, e2, zero_add]
  all_goals exact congrArg₂ (X _) (by omega) (by omega)

/-- The maxima that a strip stores. -/
theorem next_pool (hc0 : ¬cond1_0 i) (m : Fin 16) (k : Fin 192) (o : Fin 128) :
    out1_B_7 c i a2 h2 a3 h3 a4 h4 a5 h5 a6 h6 a7 h7 a8 h8 a9 h9 a10 h10 a11 h11 hc0 x0 x1 x2 x3 x4 x5 x6 xo8 xo9 (ix4 0 m k o)
      = maxOfFour (fun r y => conv (hid X w1 s q g be) (w2 o) (32 * (i 1).val + r) y) m k := by
  unfold out1_B_7
  rw [View.read_writes_eq_canon _ _ _ (cover1_B_7 c i a2 h2 a3 h3 a4 h4 a5 h5 a6 h6 a7 h7 a8 h8 a9 h9 a10 h10 a11 h11 hc0 x0 x1 x2 x3 x4 x5 x6 xo8 xo9)]
  unfold kernelRun1_B
  dsimp only
  rw [View.canon_unit_zero hz4]
  sl_unfold_words
  simp only [View.readAt_eq_ld, h2.read_unread, h3.read_unread, h4.read_unread, h5.read_unread, h6.read_unread, h7.read_unread, h8.read_unread, h9.read_unread, h10.read_unread, h11.read_unread]
  have e0 := row_word (i 1) 0 (by decide)
  have e1 := row_word (i 1) 1 (by decide)
  have e2 := row_word (i 1) 2 (by decide)
  refine pool_apply (fun r y => conv (hid X w1 s q g be) (w2 o) (32 * (i 1).val + r) y) _ _ _ _ _ m k o fun r y => second_apply (hid X w1 s q g be) (w2 o) (32 * (i 1).val) _ _ _ _ _ _
    (fun r y o => hidden_apply (i 1) X w1 s q g be _ _ _ _ ?_ ?_ ?_ ?_ _ _ _ _ _ _ _ _ _ _ _ _ _ _ _ _ _ _ ?_ ?_ ?_ ?_ ?_ ?_ ?_ ?_ ?_ ?_ ?_ ?_ ?_ ?_ ?_ ?_ ?_ ?_ r y o)
    _ _ _ _ _ _ _ _ _ r y o ?_ ?_ ?_ ?_ ?_ ?_ ?_ ?_ ?_
  all_goals intros
  all_goals pointwise [k1_pay15, k1_pay16]
  all_goals try simp only [hX, hw1, hw2, hg, hbe, hs, hq, e0, e1, e2, zero_add]
  all_goals exact congrArg₂ (X _) (by omega) (by omega)

/-- A later strip adds its own sum. -/
theorem next_sum (hc0 : ¬cond1_0 i) (o : Fin 128) :
    out1_B_8 c i a2 h2 a3 h3 a4 h4 a5 h5 a6 h6 a7 h7 a8 h8 a9 h9 a10 h10 a11 h11 hc0 x0 x1 x2 x3 x4 x5 x6 xo8 xo9 (ix2 0 o)
      = xo8 (ix2 0 o) + ∑ r : Fin 32, ∑ y : Fin 384, conv (hid X w1 s q g be) (w2 o) (32 * (i 1).val + r) y := by
  unfold out1_B_8
  rw [View.read_writes_eq_canon _ _ _ (cover1_B_8 c i a2 h2 a3 h3 a4 h4 a5 h5 a6 h6 a7 h7 a8 h8 a9 h9 a10 h10 a11 h11 hc0 x0 x1 x2 x3 x4 x5 x6 xo8 xo9)]
  unfold kernelRun1_B
  dsimp only
  rw [View.canon_unit_zero hz]
  sl_unfold_words
  simp only [View.readAt_eq_ld, h2.read_unread, h3.read_unread, h4.read_unread, h5.read_unread, h6.read_unread, h7.read_unread, h8.read_unread, h9.read_unread, h10.read_unread, h11.read_unread]
  have e0 := row_word (i 1) 0 (by decide)
  have e1 := row_word (i 1) 1 (by decide)
  have e2 := row_word (i 1) 2 (by decide)
  refine (sum_apply (fun r y => conv (hid X w1 s q g be) (w2 o) (32 * (i 1).val + r) y) _ _ _ _ _ _ o fun r y => second_apply (hid X w1 s q g be) (w2 o) (32 * (i 1).val) _ _ _ _ _ _
    (fun r y o => hidden_apply (i 1) X w1 s q g be _ _ _ _ ?_ ?_ ?_ ?_ _ _ _ _ _ _ _ _ _ _ _ _ _ _ _ _ _ _ ?_ ?_ ?_ ?_ ?_ ?_ ?_ ?_ ?_ ?_ ?_ ?_ ?_ ?_ ?_ ?_ ?_ ?_ r y o)
    _ _ _ _ _ _ _ _ _ r y o ?_ ?_ ?_ ?_ ?_ ?_ ?_ ?_ ?_).trans ?_
  all_goals intros
  all_goals pointwise [k1_pay15, k1_pay16]
  all_goals try simp only [hX, hw1, hw2, hg, hbe, hs, hq, e0, e1, e2, zero_add]
  all_goals exact congrArg₂ (X _) (by omega) (by omega)

/-- A later strip adds its own sum of squares. -/
theorem next_sq (hc0 : ¬cond1_0 i) (o : Fin 128) :
    out1_B_9 c i a2 h2 a3 h3 a4 h4 a5 h5 a6 h6 a7 h7 a8 h8 a9 h9 a10 h10 a11 h11 hc0 x0 x1 x2 x3 x4 x5 x6 xo8 xo9 (ix2 0 o)
      = xo9 (ix2 0 o) + ∑ r : Fin 32, ∑ y : Fin 384, conv (hid X w1 s q g be) (w2 o) (32 * (i 1).val + r) y
          * conv (hid X w1 s q g be) (w2 o) (32 * (i 1).val + r) y := by
  unfold out1_B_9
  rw [View.read_writes_eq_canon _ _ _ (cover1_B_9 c i a2 h2 a3 h3 a4 h4 a5 h5 a6 h6 a7 h7 a8 h8 a9 h9 a10 h10 a11 h11 hc0 x0 x1 x2 x3 x4 x5 x6 xo8 xo9)]
  unfold kernelRun1_B
  dsimp only
  rw [View.canon_unit_zero hz]
  sl_unfold_words
  simp only [View.readAt_eq_ld, h2.read_unread, h3.read_unread, h4.read_unread, h5.read_unread, h6.read_unread, h7.read_unread, h8.read_unread, h9.read_unread, h10.read_unread, h11.read_unread]
  have e0 := row_word (i 1) 0 (by decide)
  have e1 := row_word (i 1) 1 (by decide)
  have e2 := row_word (i 1) 2 (by decide)
  refine (sq_apply (fun r y => conv (hid X w1 s q g be) (w2 o) (32 * (i 1).val + r) y) _ _ _ _ _ _ o fun r y => second_apply (hid X w1 s q g be) (w2 o) (32 * (i 1).val) _ _ _ _ _ _
    (fun r y o => hidden_apply (i 1) X w1 s q g be _ _ _ _ ?_ ?_ ?_ ?_ _ _ _ _ _ _ _ _ _ _ _ _ _ _ _ _ _ _ ?_ ?_ ?_ ?_ ?_ ?_ ?_ ?_ ?_ ?_ ?_ ?_ ?_ ?_ ?_ ?_ ?_ ?_ r y o)
    _ _ _ _ _ _ _ _ _ r y o ?_ ?_ ?_ ?_ ?_ ?_ ?_ ?_ ?_).trans ?_
  all_goals intros
  all_goals pointwise [k1_pay15, k1_pay16]
  all_goals try simp only [hX, hw1, hw2, hg, hbe, hs, hq, e0, e1, e2, zero_add]
  all_goals exact congrArg₂ (X _) (by omega) (by omega)

end Strip

end Cert.KernelIdeal.Mid

end
-- ==== Proof.MidArr.lean ====
/- The result arrays of the kernel's second call: the two-by-two maxima of the second convolution, and the sums of the second
   convolution and its square over all pixels. -/
module

public import proofs.«01_k».proof.Proof.Gen.KernelIdeal.Frame
public import proofs.«01_k».proof.Proof.Spec
public import proofs.«01_k».proof.Proof.Reduce
public import proofs.«01_k».proof.Proof.Mid
public import proofs.«01_k».proof.Proof.Stats
public import Idealize.ShloMosaic.Lib.Pipeline.Value
public import Idealize.ShloMosaic.Lib.Pipeline.ValueKit
public import Idealize.ShloMosaic.Lib.Pointwise
public import Idealize.ShloMosaic.Lib.Tactic

@[expose] public section

noncomputable section

namespace Cert.KernelIdeal.Mid

open Cert.KernelIdeal Cert.KernelIdeal.Gen Cert.Net Cert.KernelIdeal.Masks Idealize.ShloMosaic Idealize.ShloMosaic.TcCoe Idealize.SL.Sem
open Idealize.ShloMosaic.Pipeline (Dat)

section Array

variable (V : (c : Dev nD) → (b : Ref sig .tc) → Buf (Elt Ideal) ((c : Thread nD τ).loc b)) (c : Dev nD)

/-- The strip of a point of the 4 by 12 grid. -/
theorem point_strip (t : Fin cfg1.N) : ((grid1.coords t) 1).val = t.val % 12 := by
  rw [Pipeline.Grid.coords_val t 1 (S := 1) (B := 12) (by decide) rfl, Nat.div_one]

/-- The last point. -/
def lastPoint : Fin cfg1.N := ⟨47, by decide⟩

/-- The padded image's block: the whole of the step's image. -/
theorem idx_image (t : Fin cfg1.N) :
    win1_0.index t 0 = t.val / 12 % 4 ∧ win1_0.index t 1 = 0 ∧ win1_0.index t 2 = 0 ∧ win1_0.index t 3 = 0 := by
  revert t; decide +kernel

/-- The first convolution's weights have one block. -/
theorem idx_1 (t : Fin cfg1.N) : win1_1.index t 0 = 0 ∧ win1_1.index t 1 = 0 ∧ win1_1.index t 2 = 0 ∧ win1_1.index t 3 = 0 := by
  revert t; decide +kernel

/-- The second convolution's weights have one block. -/
theorem idx_2 (t : Fin cfg1.N) : win1_2.index t 0 = 0 ∧ win1_2.index t 1 = 0 ∧ win1_2.index t 2 = 0 ∧ win1_2.index t 3 = 0 := by
  revert t; decide +kernel

/-- The scales have one block. -/
theorem idx_3 (t : Fin cfg1.N) : win1_3.index t 0 = 0 ∧ win1_3.index t 1 = 0 := by
  revert t; decide +kernel

/-- The offsets have one block. -/
theorem idx_4 (t : Fin cfg1.N) : win1_4.index t 0 = 0 ∧ win1_4.index t 1 = 0 := by
  revert t; decide +kernel

/-- The channel sums have one block. -/
theorem idx_5 (t : Fin cfg1.N) : win1_5.index t 0 = 0 ∧ win1_5.index t 1 = 0 := by
  revert t; decide +kernel

/-- The sums of squares have one block. -/
theorem idx_6 (t : Fin cfg1.N) : win1_6.index t 0 = 0 ∧ win1_6.index t 1 = 0 := by
  revert t; decide +kernel

/-- The pooled result's block: its image and its strip. -/
theorem idx_out (t : Fin cfg1.N) :
    win1_7.index t 0 = t.val / 12 % 4 ∧ win1_7.index t 1 = t.val % 12 ∧ win1_7.index t 2 = 0 ∧ win1_7.index t 3 = 0 := by
  revert t; decide +kernel

/-- A point's first block is its image. -/
theorem block_image (t : Fin cfg1.N) (p : Fin 388) (k : Fin 3) (q : Fin 388) :
    iblk1 V c 0 t (ix4 0 p k q) = V c main_v1 (ix4 ⟨t.val / 12 % 4, Nat.mod_lt _ (by decide)⟩ p k q) := by
  blk_ext [iblk1, idx_image t]

/-- Every point's other blocks are whole arrays: the two weights, the normalisation's parameters, and the two sums. -/
theorem block_w1 (t : Fin cfg1.N) (dy dx k : Fin 3) (o : Fin 64) :
    iblk1 V c 1 t (ix4 dy dx k o) = V c main_v2 (ix4 dy dx k o) := by
  blk_ext [iblk1, idx_1 t]
/-- The block of the second convolution's weights is the whole array. -/
theorem block_w2 (t : Fin cfg1.N) (dy dx : Fin 3) (k : Fin 64) (o : Fin 128) :
    iblk1 V c 2 t (ix4 dy dx k o) = V c main_v3 (ix4 dy dx k o) := by
  blk_ext [iblk1, idx_2 t]
/-- The scales' block is the whole array. -/
theorem block_g (t : Fin cfg1.N) (o : Fin 64) : iblk1 V c 3 t (ix2 0 o) = V c main_v121 (ix2 0 o) := by
  blk_ext [iblk1, idx_3 t]
/-- The offsets' block is the whole array. -/
theorem block_be (t : Fin cfg1.N) (o : Fin 64) : iblk1 V c 4 t (ix2 0 o) = V c main_v122 (ix2 0 o) := by
  blk_ext [iblk1, idx_4 t]
/-- The channel sums' block is the whole array. -/
theorem block_s (t : Fin cfg1.N) (o : Fin 64) : iblk1 V c 5 t (ix2 0 o) = V c main_v125_0 (ix2 0 o) := by
  blk_ext [iblk1, idx_5 t]
/-- The block of the sums of squares is the whole array. -/
theorem block_q (t : Fin cfg1.N) (o : Fin 64) : iblk1 V c 6 t (ix2 0 o) = V c main_v125_1 (ix2 0 o) := by
  blk_ext [iblk1, idx_6 t]

/-- A sum over the points and their rows is a sum over the images and their rows. -/
theorem sum_points (f : Fin 4 → ℕ → EReal) :
    ∑ t : Fin cfg1.N, ∑ r : Fin 32, f ⟨t.val / 12 % 4, Nat.mod_lt _ (by decide)⟩ (32 * ((grid1.coords t) 1).val + r)
      = ∑ n : Fin 4, ∑ h : Fin 384, f n h := by
  simp only [point_strip]
  refine (sum_rows cfg1.N N_1 fun n h => f ⟨n % 4, Nat.mod_lt _ (by decide)⟩ h).trans ?_
  refine Finset.sum_congr rfl fun n _ => ?_
  simp only [Nat.mod_eq_of_lt n.isLt]

/-- The maxima of a strip are those of the image at the strip's rows. -/
theorem maxOfFour_strip (f : ℕ → ℕ → EReal) (n m k : ℕ) :
    maxOfFour (fun r y => f (32 * n + r) y) m k = maxOfFour f (n * 16 + m) k := by
  unfold maxOfFour
  dsimp only
  rw [show 32 * n + 2 * m = 2 * (n * 16 + m) by omega, show 32 * n + (2 * m + 1) = 2 * (n * 16 + m) + 1 by omega]

/-- An index of a block of one image. -/
theorem image_idx {a b d : ℕ} (j : (⟨4, ![1, a, b, d]⟩ : Shape).Idx) : j = ix4 0 (j 1) (j 2) (j 3) := by
  funext k
  match k with
  | ⟨0, _⟩ => exact Subsingleton.elim (α := Fin 1) _ _
  | ⟨1, _⟩ => rfl
  | ⟨2, _⟩ => rfl
  | ⟨3, _⟩ => rfl

variable (X : Fin 4 → Fin 3 → ℕ → ℕ → EReal) (w1 : Fin 64 → Fin 3 → Fin 3 → Fin 3 → EReal) (w2 : Fin 128 → Fin 64 → Fin 3 → Fin 3 → EReal)
  (s q g be : Fin 64 → EReal)
  (hX : ∀ n p k q, V c main_v1 (ix4 n p k q) = X n k p.val q.val) (hw1 : ∀ dy dx k o, V c main_v2 (ix4 dy dx k o) = w1 o k dy dx)
  (hw2 : ∀ dy dx k o, V c main_v3 (ix4 dy dx k o) = w2 o k dy dx)
  (hg : ∀ o, V c main_v121 (ix2 0 o) = g o) (hbe : ∀ o, V c main_v122 (ix2 0 o) = be o)
  (hs : ∀ o, V c main_v125_0 (ix2 0 o) = s o) (hq : ∀ o, V c main_v125_1 (ix2 0 o) = q o)

include hX hw1 hw2 hg hbe hs hq

set_option maxHeartbeats 2000000 in
/-- The maxima that a point stores. -/
theorem point_pool (t : Fin cfg1.N) (m : Fin 16) (k : Fin 192) (o : Fin 128) :
    (outsAt1 V c t.val t.isLt).1 (ix4 0 m k o)
      = maxOfFour (fun r y => conv (hid (X ⟨t.val / 12 % 4, Nat.mod_lt _ (by decide)⟩) w1 s q g be) (w2 o) (32 * ((grid1.coords t) 1).val + r) y) m k := by
  by_cases h : t.val % 48 = 0
  · rw [outsAt1_A V c t h]
    dsimp only
    exact first_pool c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t)
      (X ⟨t.val / 12 % 4, Nat.mod_lt _ (by decide)⟩) w1 w2 s q g be
          (fun p k q => (block_image V c t p k q).trans (hX _ p k q)) (fun dy dx k o => (block_w1 V c t dy dx k o).trans (hw1 dy dx k o))
          (fun dy dx k o => (block_w2 V c t dy dx k o).trans (hw2 dy dx k o)) (fun o => (block_g V c t o).trans (hg o))
          (fun o => (block_be V c t o).trans (hbe o)) (fun o => (block_s V c t o).trans (hs o)) (fun o => (block_q V c t o).trans (hq o))
      ((hcond1_0 t).mpr h) m k o
  · rw [outsAt1_B V c t h]
    dsimp only
    exact next_pool c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t)
      (outsAt1 V c (t.val - 1) (Nat.lt_of_le_of_lt (Nat.sub_le _ _) t.isLt)).2.1
          (outsAt1 V c (t.val - 1) (Nat.lt_of_le_of_lt (Nat.sub_le _ _) t.isLt)).2.2 (X ⟨t.val / 12 % 4, Nat.mod_lt _ (by decide)⟩) w1 w2 s q g be
          (fun p k q => (block_image V c t p k q).trans (hX _ p k q)) (fun dy dx k o => (block_w1 V c t dy dx k o).trans (hw1 dy dx k o))
          (fun dy dx k o => (block_w2 V c t dy dx k o).trans (hw2 dy dx k o)) (fun o => (block_g V c t o).trans (hg o))
          (fun o => (block_be V c t o).trans (hbe o)) (fun o => (block_s V c t o).trans (hs o)) (fun o => (block_q V c t o).trans (hq o))
      (fun h0 => h ((hcond1_0 t).mp h0)) m k o

/-- The first result array ends holding the second convolution's two-by-two maxima. -/
theorem arr_pool (n : Fin 4) (m k : Fin 192) (o : Fin 128) :
    (dat1 V c).arrAt 7 cfg1.N (ix4 n m k o) = maxOfFour (conv (hid (X n) w1 s q g be) (w2 o)) m k := by
  have key : (dat1 V c).arrAt 7 cfg1.N
      = fun j : S4x192x192x128.Idx => maxOfFour (conv (hid (X (j 0)) w1 s q g be) (w2 (j 3))) (j 1).val (j 2).val := by
    refine (dat1 V c).arrAt_eq_of_covers 7 _ (by decide +kernel) fun t hf y => ?_
    blk_simp
    rw [after1_7, image_idx y]
    refine (point_pool V c X w1 w2 s q g be hX hw1 hw2 hg hbe hs hq t (y 1) (y 2) (y 3)).trans ?_
    have i0 : ((win1_7.blk t).view.emb (ix4 0 (y 1) (y 2) (y 3)) 0) = (⟨t.val / 12 % 4, Nat.mod_lt _ (by decide)⟩ : Fin 4) :=
      Fin.ext (by show _ = t.val / 12 % 4; blk_simp [(idx_out t).1]; all_goals omega)
    have i3 : ((win1_7.blk t).view.emb (ix4 0 (y 1) (y 2) (y 3)) 3) = (y 3 : Fin 128) :=
      Fin.ext (by blk_simp [(idx_out t).2.2.2]; all_goals omega)
    have cg : ∀ {n n' : Fin 4} {j j' : Fin 128} {p p' u u' : ℕ}, n = n' → j = j' → p = p' → u = u' →
        maxOfFour (conv (hid (X n) w1 s q g be) (w2 j)) p u = maxOfFour (conv (hid (X n') w1 s q g be) (w2 j')) p' u' := by
      rintro n _ j _ p _ u _ rfl rfl rfl rfl
      rfl
    refine (maxOfFour_strip (conv (hid (X ⟨t.val / 12 % 4, Nat.mod_lt _ (by decide)⟩) w1 s q g be) (w2 (y 3))) _ _ _).trans
      (cg i0.symm i3.symm ?_ ?_)
    · rw [(idx_out t).2.1, point_strip]
      rfl
    · rw [(idx_out t).2.2.1, Nat.zero_mul, Nat.zero_add]
      rfl
  exact congrFun key (ix4 n m k o)

set_option maxHeartbeats 2000000 in
/-- The second result array ends holding the second convolution's sum over all pixels. -/
theorem arr_sum (o : Fin 128) :
    (dat1 V c).arrAt 8 cfg1.N (ix2 0 o) = total fun n h y => conv (hid (X n) w1 s q g be) (w2 o) h y := by
  have key : (dat1 V c).arrAt 8 cfg1.N = fun j : S1x128.Idx => total fun n h y => conv (hid (X n) w1 s q g be) (w2 (j 1)) h y := by
    refine (dat1 V c).arrAt_eq_of_after_last 8 lastPoint (by decide +kernel) _ fun j => ?_
    blk_simp
    rw [after1_8, Pipeline.eq_sum_fin_of_reset_step_apply_last (fun n h => (outsAt1 V c n h).2.1) 48 (fun _ => 0)
      (fun t j => ∑ r : Fin 32, ∑ y : Fin 384,
        conv (hid (X ⟨t.val / 12 % 4, Nat.mod_lt _ (by decide)⟩) w1 s q g be) (w2 (j 1)) (32 * ((grid1.coords t) 1).val + r) y)
      (fun t h j => ?_) (fun t h j => ?_) (le_of_eq N_1) lastPoint N_1.symm j, zero_add]
    · exact sum_points fun n h => ∑ y : Fin 384, conv (hid (X n) w1 s q g be) (w2 (j 1)) h y
    · rw [outsAt1_A V c t h, Stats.row_idx j, zero_add]
      dsimp only
      exact first_sum c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t)
        (X ⟨t.val / 12 % 4, Nat.mod_lt _ (by decide)⟩) w1 w2 s q g be
          (fun p k q => (block_image V c t p k q).trans (hX _ p k q)) (fun dy dx k o => (block_w1 V c t dy dx k o).trans (hw1 dy dx k o))
          (fun dy dx k o => (block_w2 V c t dy dx k o).trans (hw2 dy dx k o)) (fun o => (block_g V c t o).trans (hg o))
          (fun o => (block_be V c t o).trans (hbe o)) (fun o => (block_s V c t o).trans (hs o)) (fun o => (block_q V c t o).trans (hq o))
        ((hcond1_0 t).mpr h) (j 1)
    · rw [outsAt1_B V c t h, Stats.row_idx j]
      dsimp only
      exact next_sum c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t)
        (outsAt1 V c (t.val - 1) (Nat.lt_of_le_of_lt (Nat.sub_le _ _) t.isLt)).2.1
          (outsAt1 V c (t.val - 1) (Nat.lt_of_le_of_lt (Nat.sub_le _ _) t.isLt)).2.2
        (X ⟨t.val / 12 % 4, Nat.mod_lt _ (by decide)⟩) w1 w2 s q g be
          (fun p k q => (block_image V c t p k q).trans (hX _ p k q)) (fun dy dx k o => (block_w1 V c t dy dx k o).trans (hw1 dy dx k o))
          (fun dy dx k o => (block_w2 V c t dy dx k o).trans (hw2 dy dx k o)) (fun o => (block_g V c t o).trans (hg o))
          (fun o => (block_be V c t o).trans (hbe o)) (fun o => (block_s V c t o).trans (hs o)) (fun o => (block_q V c t o).trans (hq o))
        (fun h0 => h ((hcond1_0 t).mp h0)) (j 1)
  exact congrFun key (ix2 0 o)

set_option maxHeartbeats 2000000 in
/-- The third result array ends holding its square's sum over all pixels. -/
theorem arr_sq (o : Fin 128) :
    (dat1 V c).arrAt 9 cfg1.N (ix2 0 o) = total fun n h y => conv (hid (X n) w1 s q g be) (w2 o) h y * conv (hid (X n) w1 s q g be) (w2 o) h y := by
  have key : (dat1 V c).arrAt 9 cfg1.N = fun j : S1x128.Idx => total fun n h y => conv (hid (X n) w1 s q g be) (w2 (j 1)) h y * conv (hid (X n) w1 s q g be) (w2 (j 1)) h y := by
    refine (dat1 V c).arrAt_eq_of_after_last 9 lastPoint (by decide +kernel) _ fun j => ?_
    blk_simp
    rw [after1_9, Pipeline.eq_sum_fin_of_reset_step_apply_last (fun n h => (outsAt1 V c n h).2.2) 48 (fun _ => 0)
      (fun t j => ∑ r : Fin 32, ∑ y : Fin 384,
        conv (hid (X ⟨t.val / 12 % 4, Nat.mod_lt _ (by decide)⟩) w1 s q g be) (w2 (j 1)) (32 * ((grid1.coords t) 1).val + r) y
          * conv (hid (X ⟨t.val / 12 % 4, Nat.mod_lt _ (by decide)⟩) w1 s q g be) (w2 (j 1)) (32 * ((grid1.coords t) 1).val + r) y)
      (fun t h j => ?_) (fun t h j => ?_) (le_of_eq N_1) lastPoint N_1.symm j, zero_add]
    · exact sum_points fun n h => ∑ y : Fin 384, conv (hid (X n) w1 s q g be) (w2 (j 1)) h y * conv (hid (X n) w1 s q g be) (w2 (j 1)) h y
    · rw [outsAt1_A V c t h, Stats.row_idx j, zero_add]
      dsimp only
      exact first_sq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t)
        (X ⟨t.val / 12 % 4, Nat.mod_lt _ (by decide)⟩) w1 w2 s q g be
          (fun p k q => (block_image V c t p k q).trans (hX _ p k q)) (fun dy dx k o => (block_w1 V c t dy dx k o).trans (hw1 dy dx k o))
          (fun dy dx k o => (block_w2 V c t dy dx k o).trans (hw2 dy dx k o)) (fun o => (block_g V c t o).trans (hg o))
          (fun o => (block_be V c t o).trans (hbe o)) (fun o => (block_s V c t o).trans (hs o)) (fun o => (block_q V c t o).trans (hq o))
        ((hcond1_0 t).mpr h) (j 1)
    · rw [outsAt1_B V c t h, Stats.row_idx j]
      dsimp only
      exact next_sq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t)
        (outsAt1 V c (t.val - 1) (Nat.lt_of_le_of_lt (Nat.sub_le _ _) t.isLt)).2.1
          (outsAt1 V c (t.val - 1) (Nat.lt_of_le_of_lt (Nat.sub_le _ _) t.isLt)).2.2
        (X ⟨t.val / 12 % 4, Nat.mod_lt _ (by decide)⟩) w1 w2 s q g be
          (fun p k q => (block_image V c t p k q).trans (hX _ p k q)) (fun dy dx k o => (block_w1 V c t dy dx k o).trans (hw1 dy dx k o))
          (fun dy dx k o => (block_w2 V c t dy dx k o).trans (hw2 dy dx k o)) (fun o => (block_g V c t o).trans (hg o))
          (fun o => (block_be V c t o).trans (hbe o)) (fun o => (block_s V c t o).trans (hs o)) (fun o => (block_q V c t o).trans (hq o))
        (fun h0 => h ((hcond1_0 t).mp h0)) (j 1)
  exact congrFun key (ix2 0 o)

end Array

end Cert.KernelIdeal.Mid

end
-- ==== Proof.DeconvBody.lean ====
/- What one strip of the kernel's third call computes: the pooled rows normalised, cut off below zero and masked to the image,
   the nine taps of the transposed convolution, the bias and the logistic function. -/
module

public import proofs.«01_k».proof.Proof.Gen.KernelIdeal.Frame
public import proofs.«01_k».proof.Proof.Spec
public import proofs.«01_k».proof.Proof.Reduce
public import proofs.«01_k».proof.Proof.Masks
public import Idealize.ShloMosaic.Lib.Pipeline.Value
public import Idealize.ShloMosaic.Lib.Pipeline.ValueKit
public import Idealize.ShloMosaic.Lib.Pointwise
public import Idealize.ShloMosaic.Lib.Tactic

@[expose] public section

noncomputable section

namespace Cert.KernelIdeal.Deconv

open Cert.KernelIdeal Cert.KernelIdeal.Gen Cert.Net Cert.KernelIdeal.Masks Idealize.ShloMosaic Idealize.ShloMosaic.TcCoe Idealize.SL.Sem
open Idealize.ShloMosaic.Pipeline (Dat)

/-- The strip with its two neighbour rows, normalised, at a row, a column and a channel. -/
theorem hidden_apply (n : Fin 6) (P : Fin 128 → ℕ → ℕ → EReal) (s q g be : Fin 128 → EReal)
    (v1 v5 v14 v17 : Vec Ideal S1x128 .f32) (h1 : ∀ o, v1 (ix2 0 o) = s o) (h5 : ∀ o, v5 (ix2 0 o) = q o)
    (h14 : ∀ o, v14 (ix2 0 o) = g o) (h17 : ∀ o, v17 (ix2 0 o) = be o)
    (v21 : Vec Ideal S1x1x194x128 .f32) (v23 : Vec Ideal S1x32x194x128 .f32) (v25 : Vec Ideal S1x1x194x128 .f32)
    (hprev : 0 < n.val → ∀ y o, v21 (ix4 0 0 y o) = P o (32 * n) y) (hcur : ∀ r y o, v23 (ix4 0 r y o) = P o (32 * n + 1 + r) y)
    (hnext : n.val < 5 → ∀ y o, v25 (ix4 0 0 y o) = P o (32 * n + 33) y)
    (r : Fin 34) (y : Fin 194) (o : Fin 128) :
    k2_pay3 (Scalar.muli (BitVec.ofNat 32 n) 32#32) (k2_pay2 v1 v5 v14 v17 v21 v23 v25) (ix3 r y o)
      = inside 192 192 (fun p y => act (s o) (q o) (g o) (be o) (P o p y)) (32 * n + r) y := by
  pointwise [k2_pay3, k2_pay2]
  rw [select_iff _ _ (border _ 32 n r y 192 192 (strip_word 32 n (by omega) (by decide)) (by omega) (by omega) (by omega) (by decide) (by decide))]
  simp only [h1, h5, h14, h17]
  unfold inside
  by_cases h : (1 ≤ 32 * n.val + r.val ∧ 32 * n.val + r.val ≤ 192) ∧ 1 ≤ y.val ∧ y.val ≤ 192
  · rw [if_pos h, if_pos h]
    have hr := r.isLt
    by_cases h1 : r.val < 1
    · rw [dif_pos h1, hprev (by omega), show 32 * n.val + r.val = 32 * n.val by omega]
      rfl
    · rw [dif_neg h1]
      by_cases h2 : r.val < 33
      · rw [dif_pos (by omega), hcur]
        dsimp only
        rw [show 32 * n.val + 1 + (r.val - 1) = 32 * n.val + r.val by omega]
        rfl
      · rw [dif_neg (by omega), hnext (by omega), show 32 * n.val + r.val = 32 * n.val + 33 by omega]
        rfl
  · rw [if_neg h, if_neg h]

/-- A strip's result at an element: the logistic function of the sum over the nine taps and the bias. -/
theorem taps_apply (G : Fin 128 → ℕ → ℕ → EReal) (w : Fin 128 → Fin 3 → Fin 3 → EReal) (p : ℕ) (b : EReal)
    (v0 : BitVec 32) (v33 : FVec Ideal S34x194x128 .f32)
    (hG : ∀ r y o, k2_pay3 v0 v33 (ix3 r y o) = G o (p + r) y)
    (u00 u01 u02 u10 u11 u12 u20 u21 u22 : Vec Ideal S1x1x128x12 .f32) (v102 : Vec Ideal S1x12 .f32) (r : Fin 32) (y : Fin 192) (o : Fin 12)
    (hu00 : ∀ k, u00 (ix4 0 0 k o) = w k 0 0)
    (hu01 : ∀ k, u01 (ix4 0 0 k o) = w k 0 1)
    (hu02 : ∀ k, u02 (ix4 0 0 k o) = w k 0 2)
    (hu10 : ∀ k, u10 (ix4 0 0 k o) = w k 1 0)
    (hu11 : ∀ k, u11 (ix4 0 0 k o) = w k 1 1)
    (hu12 : ∀ k, u12 (ix4 0 0 k o) = w k 1 2)
    (hu20 : ∀ k, u20 (ix4 0 0 k o) = w k 2 0)
    (hu21 : ∀ k, u21 (ix4 0 0 k o) = w k 2 1)
    (hu22 : ∀ k, u22 (ix4 0 0 k o) = w k 2 2)
    (hb : v102 (ix2 0 o) = b) :
    k2_pay1 (k2_pay6 (k2_pay3 v0 v33) (k2_pay4 v0 v33 u00 u01) (k2_pay5 v0 v33 u02) u10 u11 u12 u20 u21)
      (k2_pay7 (k2_pay3 v0 v33) u22) v102 (ix4 0 r y o)
      = Ideal.logistic (conv G w (p + r) y + b) := by
  pointwise [k2_pay1, k2_pay4, k2_pay5, k2_pay6, k2_pay7, hG]
  simp only [hu00, hu01, hu02, hu10, hu11, hu12, hu20, hu21, hu22, hb, conv_nine]
  simp only [Nat.add_comm 1, Nat.add_comm 2, Nat.add_assoc]

end Cert.KernelIdeal.Deconv

end
-- ==== Proof.Deconv.lean ====
/- The kernel's third call: over the 4 by 6 grid of 32-row strips of the pooled image it stores the four results of every
   pooled pixel and channel. -/
module

public import proofs.«01_k».proof.Proof.Gen.KernelIdeal.Frame
public import proofs.«01_k».proof.Proof.Spec
public import proofs.«01_k».proof.Proof.Reduce
public import proofs.«01_k».proof.Proof.DeconvBody
public import proofs.«01_k».proof.Proof.Stats
public import Idealize.ShloMosaic.Lib.Pipeline.Value
public import Idealize.ShloMosaic.Lib.Pipeline.ValueKit
public import Idealize.ShloMosaic.Lib.Pointwise
public import Idealize.ShloMosaic.Lib.Tactic

@[expose] public section

noncomputable section

namespace Cert.KernelIdeal.Deconv

open Cert.KernelIdeal Cert.KernelIdeal.Gen Cert.Net Cert.KernelIdeal.Masks Idealize.ShloMosaic Idealize.ShloMosaic.TcCoe Idealize.SL.Sem
open Idealize.ShloMosaic.Pipeline (Dat)

/-- An index of a block of one image. -/
theorem image_idx {a b d : ℕ} (j : (⟨4, ![1, a, b, d]⟩ : Shape).Idx) : j = ix4 0 (j 1) (j 2) (j 3) := by
  funext k
  match k with
  | ⟨0, _⟩ => exact Subsingleton.elim (α := Fin 1) _ _
  | ⟨1, _⟩ => rfl
  | ⟨2, _⟩ => rfl
  | ⟨3, _⟩ => rfl

/-- The four zero offsets are the constant zero function. -/
theorem hz4 : (![0, 0, 0, 0] : Fin 4 → Nat) = fun _ => 0 := funext fun a => by fin_cases a <;> rfl

/-- What a strip stores. -/
theorem out_apply (i : grid2.Coords) (x0 : Vec Ideal S1x32x194x128 .f32) (x1 : Vec Ideal S1x32x194x128 .f32) (x2 : Vec Ideal S1x32x194x128 .f32) (x3 : Vec Ideal S3x3x128x12 .f32) (x4 : Vec Ideal S1x128 .f32) (x5 : Vec Ideal S1x128 .f32) (x6 : Vec Ideal S1x12 .f32) (x7 : Vec Ideal S1x128 .f32) (x8 : Vec Ideal S1x128 .f32)
    (P : Fin 128 → ℕ → ℕ → EReal) (w : Fin 12 → Fin 128 → Fin 3 → Fin 3 → EReal) (s q g be : Fin 128 → EReal) (b : Fin 12 → EReal)
    (hprev : 0 < (i 1).val → ∀ y o, x0 (ix4 0 31 y o) = P o (32 * (i 1).val) y)
    (hcur : ∀ r y o, x1 (ix4 0 r y o) = P o (32 * (i 1).val + 1 + r.val) y)
    (hnext : (i 1).val < 5 → ∀ y o, x2 (ix4 0 0 y o) = P o (32 * (i 1).val + 33) y)
    (hw : ∀ dy dx k o, x3 (ix4 dy dx k o) = w o k dy dx) (hg : ∀ o, x4 (ix2 0 o) = g o) (hbe : ∀ o, x5 (ix2 0 o) = be o)
    (hb : ∀ o, x6 (ix2 0 o) = b o) (hs : ∀ o, x7 (ix2 0 o) = s o) (hq : ∀ o, x8 (ix2 0 o) = q o)
    (r : Fin 32) (y : Fin 192) (o : Fin 12) :
    out2_9 i x0 x1 x2 x3 x4 x5 x6 x7 x8 (ix4 0 r y o)
      = Ideal.logistic (conv (fun k => inside 192 192 fun p y => act (s k) (q k) (g k) (be k) (P k p y)) (w o) (32 * (i 1).val + r) y + b o) := by
  unfold out2_9 k2_pay9
  unfold r2_14
  rw [View.canon_unit_zero hz4]
  refine taps_apply (fun k => inside 192 192 fun p y => act (s k) (q k) (g k) (be k) (P k p y)) (w o) (32 * (i 1).val) (b o) _ _
    (fun r y o => hidden_apply (i 1) P s q g be _ _ _ _ ?_ ?_ ?_ ?_ _ _ _ ?_ ?_ ?_ r y o)
    _ _ _ _ _ _ _ _ _ _ r y o ?_ ?_ ?_ ?_ ?_ ?_ ?_ ?_ ?_ ?_
  all_goals intros
  all_goals pointwise [r2_0, r2_1, r2_2, r2_3, r2_4, r2_5, r2_6, r2_7, r2_8, r2_9, r2_10, r2_11, r2_12, r2_13]
  all_goals first | simp only [hw, hg, hbe, hb, hs, hq, hcur] | exact hprev (by assumption) _ _ | exact hnext (by assumption) _ _

section Array

variable (V : (c : Dev nD) → (b : Ref sig .tc) → Buf (Elt Ideal) ((c : Thread nD τ).loc b)) (c : Dev nD)

/-- The strip of a point of the 4 by 6 grid. -/
theorem point_strip (t : Fin cfg2.N) : ((grid2.coords t) 1).val = t.val % 6 := by
  rw [Pipeline.Grid.coords_val t 1 (S := 1) (B := 6) (by decide) rfl, Nat.div_one]

/-- The block above a strip: its image, and the strip before it (the first strip takes itself). -/
theorem idx_prev (t : Fin cfg2.N) :
    win2_0.index t 0 = t.val / 6 % 4 ∧ win2_0.index t 1 = t.val % 6 - 1 ∧ win2_0.index t 2 = 0 ∧ win2_0.index t 3 = 0 := by
  revert t; decide +kernel

/-- A strip's own block: its image and its strip. -/
theorem idx_cur (t : Fin cfg2.N) :
    win2_1.index t 0 = t.val / 6 % 4 ∧ win2_1.index t 1 = t.val % 6 ∧ win2_1.index t 2 = 0 ∧ win2_1.index t 3 = 0 := by
  revert t; decide +kernel

/-- The block below a strip: its image, and the strip after it (the last strip takes itself). -/
theorem idx_next (t : Fin cfg2.N) :
    win2_2.index t 0 = t.val / 6 % 4 ∧ win2_2.index t 1 = min (t.val % 6 + 1) 5 ∧ win2_2.index t 2 = 0 ∧ win2_2.index t 3 = 0 := by
  revert t; decide +kernel

/-- The result's block: its image and its strip. -/
theorem idx_out (t : Fin cfg2.N) :
    win2_9.index t 0 = t.val / 6 % 4 ∧ win2_9.index t 1 = t.val % 6 ∧ win2_9.index t 2 = 0 ∧ win2_9.index t 3 = 0 := by
  revert t; decide +kernel

/-- The weights have one block. -/
theorem idx_3 (t : Fin cfg2.N) : win2_3.index t 0 = 0 ∧ win2_3.index t 1 = 0 ∧ win2_3.index t 2 = 0 ∧ win2_3.index t 3 = 0 := by
  revert t; decide +kernel

/-- The scales have one block. -/
theorem idx_4 (t : Fin cfg2.N) : win2_4.index t 0 = 0 ∧ win2_4.index t 1 = 0 := by
  revert t; decide +kernel

/-- The offsets have one block. -/
theorem idx_5 (t : Fin cfg2.N) : win2_5.index t 0 = 0 ∧ win2_5.index t 1 = 0 := by
  revert t; decide +kernel

/-- The bias has one block. -/
theorem idx_6 (t : Fin cfg2.N) : win2_6.index t 0 = 0 ∧ win2_6.index t 1 = 0 := by
  revert t; decide +kernel

/-- The channel sums have one block. -/
theorem idx_7 (t : Fin cfg2.N) : win2_7.index t 0 = 0 ∧ win2_7.index t 1 = 0 := by
  revert t; decide +kernel

/-- The sums of squares have one block. -/
theorem idx_8 (t : Fin cfg2.N) : win2_8.index t 0 = 0 ∧ win2_8.index t 1 = 0 := by
  revert t; decide +kernel

/-- The row above a point's strip is in its first block. -/
theorem block_prev (t : Fin cfg2.N) (h : 0 < t.val % 6) (y : Fin 194) (o : Fin 128) :
    iblk2 V c 0 t (ix4 0 31 y o) = V c main_v127 (ix4 ⟨t.val / 6 % 4, Nat.mod_lt _ (by decide)⟩ ⟨32 * (t.val % 6) - 1, by omega⟩ y o) := by
  blk_ext [iblk2, idx_prev t]

/-- A point's second block is its strip. -/
theorem block_cur (t : Fin cfg2.N) (r : Fin 32) (y : Fin 194) (o : Fin 128) :
    iblk2 V c 1 t (ix4 0 r y o) = V c main_v127 (ix4 ⟨t.val / 6 % 4, Nat.mod_lt _ (by decide)⟩ ⟨32 * (t.val % 6) + r.val, by omega⟩ y o) := by
  blk_ext [iblk2, idx_cur t]

/-- The row below a point's strip is in its third block. -/
theorem block_next (t : Fin cfg2.N) (h : t.val % 6 < 5) (y : Fin 194) (o : Fin 128) :
    iblk2 V c 2 t (ix4 0 0 y o) = V c main_v127 (ix4 ⟨t.val / 6 % 4, Nat.mod_lt _ (by decide)⟩ ⟨32 * (t.val % 6) + 32, by omega⟩ y o) := by
  blk_ext [iblk2, idx_next t]

/-- Every point's other blocks are whole arrays. -/
theorem block_w (t : Fin cfg2.N) (dy dx : Fin 3) (k : Fin 128) (o : Fin 12) :
    iblk2 V c 3 t (ix4 dy dx k o) = V c main_v116 (ix4 dy dx k o) := by
  blk_ext [iblk2, idx_3 t]
/-- The scales' block is the whole array. -/
theorem block_g (t : Fin cfg2.N) (o : Fin 128) : iblk2 V c 4 t (ix2 0 o) = V c main_v123 (ix2 0 o) := by
  blk_ext [iblk2, idx_4 t]
/-- The offsets' block is the whole array. -/
theorem block_be (t : Fin cfg2.N) (o : Fin 128) : iblk2 V c 5 t (ix2 0 o) = V c main_v124 (ix2 0 o) := by
  blk_ext [iblk2, idx_5 t]
/-- The bias's block is the whole array. -/
theorem block_b (t : Fin cfg2.N) (o : Fin 12) : iblk2 V c 6 t (ix2 0 o) = V c main_v120 (ix2 0 o) := by
  blk_ext [iblk2, idx_6 t]
/-- The channel sums' block is the whole array. -/
theorem block_s (t : Fin cfg2.N) (o : Fin 128) : iblk2 V c 7 t (ix2 0 o) = V c main_v126_1 (ix2 0 o) := by
  blk_ext [iblk2, idx_7 t]
/-- The block of the sums of squares is the whole array. -/
theorem block_q (t : Fin cfg2.N) (o : Fin 128) : iblk2 V c 8 t (ix2 0 o) = V c main_v126_2 (ix2 0 o) := by
  blk_ext [iblk2, idx_8 t]

variable (P : Fin 4 → Fin 128 → ℕ → ℕ → EReal) (w : Fin 12 → Fin 128 → Fin 3 → Fin 3 → EReal) (s q g be : Fin 128 → EReal) (b : Fin 12 → EReal)
  (hP : ∀ n m y o, V c main_v127 (ix4 n m y o) = P n o (m.val + 1) y.val)
  (hw : ∀ dy dx k o, V c main_v116 (ix4 dy dx k o) = w o k dy dx)
  (hg : ∀ o, V c main_v123 (ix2 0 o) = g o) (hbe : ∀ o, V c main_v124 (ix2 0 o) = be o) (hb : ∀ o, V c main_v120 (ix2 0 o) = b o)
  (hs : ∀ o, V c main_v126_1 (ix2 0 o) = s o) (hq : ∀ o, V c main_v126_2 (ix2 0 o) = q o)

include hP hw hg hbe hb hs hq

set_option maxHeartbeats 2000000 in
/-- What a point stores. -/
theorem point_out (t : Fin cfg2.N) (r : Fin 32) (y : Fin 192) (o : Fin 12) :
    out2_9 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (ix4 0 r y o)
      = Ideal.logistic (conv (fun k => inside 192 192 fun p y => act (s k) (q k) (g k) (be k)
          (P ⟨t.val / 6 % 4, Nat.mod_lt _ (by decide)⟩ k p y)) (w o) (t.val % 6 * 32 + r) y + b o) := by
  have e := point_strip t
  refine (out_apply (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (P ⟨t.val / 6 % 4, Nat.mod_lt _ (by decide)⟩) w s q g be b
    (fun h y o => ?_) (fun r y o => ?_) (fun h y o => ?_) (fun dy dx k o => (block_w V c t dy dx k o).trans (hw dy dx k o))
    (fun o => (block_g V c t o).trans (hg o)) (fun o => (block_be V c t o).trans (hbe o)) (fun o => (block_b V c t o).trans (hb o))
    (fun o => (block_s V c t o).trans (hs o)) (fun o => (block_q V c t o).trans (hq o)) r y o).trans ?_
  · rw [e] at h ⊢
    rw [block_prev V c t h, hP]
    exact congrArg (fun p => P _ o p y) (by dsimp only; omega)
  · rw [e, block_cur V c t, hP]
    exact congrArg (fun p => P _ o p y) (by dsimp only; omega)
  · rw [e] at h ⊢
    rw [block_next V c t h, hP]
  · rw [e, Nat.mul_comm 32]

/-- The result array ends holding the logistic function of the nine taps and the bias. -/
theorem arr_out (n : Fin 4) (m k : Fin 192) (j : Fin 12) :
    (dat2 V c).arrAt 9 cfg2.N (ix4 n m k j)
      = Ideal.logistic (conv (fun i => inside 192 192 fun p y => act (s i) (q i) (g i) (be i) (P n i p y)) (w j) m k + b j) := by
  have key : (dat2 V c).arrAt 9 cfg2.N = fun j : S4x192x192x12.Idx =>
      Ideal.logistic (conv (fun i => inside 192 192 fun p y => act (s i) (q i) (g i) (be i) (P (j 0) i p y)) (w (j 3)) (j 1).val (j 2).val
        + b (j 3)) := by
    refine (dat2 V c).arrAt_eq_of_covers 9 _ (by decide +kernel) fun t hf y => ?_
    blk_simp
    rw [after2_9, image_idx y]
    refine (point_out V c P w s q g be b hP hw hg hbe hb hs hq t (y 1) (y 2) (y 3)).trans ?_
    have i0 : ((win2_9.blk t).view.emb (ix4 0 (y 1) (y 2) (y 3)) 0) = (⟨t.val / 6 % 4, Nat.mod_lt _ (by decide)⟩ : Fin 4) :=
      Fin.ext (by show _ = t.val / 6 % 4; blk_simp [(idx_out t).1]; all_goals omega)
    have i3 : ((win2_9.blk t).view.emb (ix4 0 (y 1) (y 2) (y 3)) 3) = (y 3 : Fin 12) :=
      Fin.ext (by blk_simp [(idx_out t).2.2.2]; all_goals omega)
    have cg : ∀ {n n' : Fin 4} {j j' : Fin 12} {p p' u u' : ℕ}, n = n' → j = j' → p = p' → u = u' →
        Ideal.logistic (conv (fun i => inside 192 192 fun p y => act (s i) (q i) (g i) (be i) (P n i p y)) (w j) p u + b j)
          = Ideal.logistic (conv (fun i => inside 192 192 fun p y => act (s i) (q i) (g i) (be i) (P n' i p y)) (w j') p' u' + b j') := by
      rintro n _ j _ p _ u _ rfl rfl rfl rfl
      rfl
    refine cg i0.symm i3.symm ?_ ?_
    · rw [(idx_out t).2.1]
      rfl
    · rw [(idx_out t).2.2.1, Nat.zero_mul, Nat.zero_add]
      rfl
  exact congrFun key (ix4 n m k j)

end Array

end Cert.KernelIdeal.Deconv

end
-- ==== Proof.Result.lean ====
/- The kernel's result at an index, as a function of its arguments: the three calls' arrays and the host operations around
   them put together. -/
module

public import proofs.«01_k».proof.Proof.Host
public import proofs.«01_k».proof.Proof.Weights
public import proofs.«01_k».proof.Proof.Stats
public import proofs.«01_k».proof.Proof.MidArr
public import proofs.«01_k».proof.Proof.Deconv

@[expose] public section

noncomputable section

namespace Cert.KernelIdeal.Result

open Cert.KernelIdeal Cert.KernelIdeal.Gen Cert.Net Idealize.ShloMosaic Idealize.ShloMosaic.TcCoe Idealize.SL.Sem

variable (m : (ℓ : Loc nD τ sig) → Buf (Elt Ideal) ℓ) (ρ : Dev nD → PrngReg) (c : Dev nD)

/-- The image as launched. -/
abbrev ax : Fin 4 → Fin 3 → Fin 384 → Fin 384 → EReal := fun n i h w => m ((c : Thread nD τ).loc main_arg0) (ix4 n i h w)
/-- The first convolution's weights. -/
abbrev aw1 : Fin 64 → Fin 3 → Fin 3 → Fin 3 → EReal := fun o i dy dx => m ((c : Thread nD τ).loc main_arg1) (ix4 o i dy dx)
/-- The first normalisation's gain. -/
abbrev ag1 : Fin 64 → EReal := fun o => m ((c : Thread nD τ).loc main_arg3) (ix1 o)
/-- The first normalisation's offset. -/
abbrev abe1 : Fin 64 → EReal := fun o => m ((c : Thread nD τ).loc main_arg4) (ix1 o)
/-- The second convolution's weights. -/
abbrev aw2 : Fin 128 → Fin 64 → Fin 3 → Fin 3 → EReal := fun o i dy dx => m ((c : Thread nD τ).loc main_arg5) (ix4 o i dy dx)
/-- The second normalisation's gain. -/
abbrev ag2 : Fin 128 → EReal := fun o => m ((c : Thread nD τ).loc main_arg7) (ix1 o)
/-- The second normalisation's offset. -/
abbrev abe2 : Fin 128 → EReal := fun o => m ((c : Thread nD τ).loc main_arg8) (ix1 o)
/-- The transposed convolution's weights. -/
abbrev awt : Fin 128 → Fin 3 → Fin 4 → Fin 4 → EReal := fun i o ky kx => m ((c : Thread nD τ).loc main_arg9) (ix4 i o ky kx)
/-- The transposed convolution's bias. -/
abbrev abt : Fin 3 → EReal := fun o => m ((c : Thread nD τ).loc main_arg10) (ix1 o)

/-- The first call's sums. -/
theorem at_s1 (o : Fin 64) : V4 m ρ c main_v125_0 (ix2 (0 : Fin 1) o) = s1 (ax m c) (aw1 m c) o :=
  (congrFun (W4_arr m ρ c 2) _).trans (Stats.arr_sum (V3 m ρ) c (fun n i => padded 2 (ax m c n i)) (aw1 m c)
    (fun n p k q => Host.at_x m ρ c n p k q) (fun dy dx k o => Host.at_w1 m ρ c dy dx k o) o)

/-- The first call's sums of squares. -/
theorem at_q1 (o : Fin 64) : V4 m ρ c main_v125_1 (ix2 (0 : Fin 1) o) = q1 (ax m c) (aw1 m c) o :=
  (congrFun (W4_arr m ρ c 3) _).trans (Stats.arr_sq (V3 m ρ) c (fun n i => padded 2 (ax m c n i)) (aw1 m c)
    (fun n p k q => Host.at_x m ρ c n p k q) (fun dy dx k o => Host.at_w1 m ρ c dy dx k o) o)

/-- The second call's maxima. -/
theorem at_max (n : Fin 4) (i k : Fin 192) (o : Fin 128) :
    W5 m ρ c (Proc.devRef .tc main_v126_0) (ix4 n i k o)
      = pooled (ax m c) (aw1 m c) (ag1 m c) (abe1 m c) (aw2 m c) n o i k :=
  (congrFun (W5_arr m ρ c 7) _).trans (Mid.arr_pool (V4 m ρ) c (fun n i => padded 2 (ax m c n i)) (aw1 m c) (aw2 m c)
    (s1 (ax m c) (aw1 m c)) (q1 (ax m c) (aw1 m c)) (ag1 m c) (abe1 m c)
    (fun n p k q => (congrFun (W4_of m ρ c main_v1 (by decide)) _).trans (Host.at_x m ρ c n p k q))
    (fun dy dx k o => (congrFun (W4_of m ρ c main_v2 (by decide)) _).trans (Host.at_w1 m ρ c dy dx k o))
    (fun dy dx k o => (congrFun (W4_of m ρ c main_v3 (by decide)) _).trans (Host.at_w2 m ρ c dy dx k o))
    (fun o => (congrFun (W4_of m ρ c main_v121 (by decide)) _).trans (Host.at_g1 m ρ c o))
    (fun o => (congrFun (W4_of m ρ c main_v122 (by decide)) _).trans (Host.at_be1 m ρ c o))
    (at_s1 m ρ c) (at_q1 m ρ c) n i k o)

/-- The second call's sums. -/
theorem at_s2 (o : Fin 128) :
    W5 m ρ c (Proc.devRef .tc main_v126_1) (ix2 (0 : Fin 1) o) = s2 (ax m c) (aw1 m c) (ag1 m c) (abe1 m c) (aw2 m c) o :=
  (congrFun (W5_arr m ρ c 8) _).trans (Mid.arr_sum (V4 m ρ) c (fun n i => padded 2 (ax m c n i)) (aw1 m c) (aw2 m c)
    (s1 (ax m c) (aw1 m c)) (q1 (ax m c) (aw1 m c)) (ag1 m c) (abe1 m c)
    (fun n p k q => (congrFun (W4_of m ρ c main_v1 (by decide)) _).trans (Host.at_x m ρ c n p k q))
    (fun dy dx k o => (congrFun (W4_of m ρ c main_v2 (by decide)) _).trans (Host.at_w1 m ρ c dy dx k o))
    (fun dy dx k o => (congrFun (W4_of m ρ c main_v3 (by decide)) _).trans (Host.at_w2 m ρ c dy dx k o))
    (fun o => (congrFun (W4_of m ρ c main_v121 (by decide)) _).trans (Host.at_g1 m ρ c o))
    (fun o => (congrFun (W4_of m ρ c main_v122 (by decide)) _).trans (Host.at_be1 m ρ c o))
    (at_s1 m ρ c) (at_q1 m ρ c) o)

/-- The second call's sums of squares. -/
theorem at_q2 (o : Fin 128) :
    W5 m ρ c (Proc.devRef .tc main_v126_2) (ix2 (0 : Fin 1) o) = q2 (ax m c) (aw1 m c) (ag1 m c) (abe1 m c) (aw2 m c) o :=
  (congrFun (W5_arr m ρ c 9) _).trans (Mid.arr_sq (V4 m ρ) c (fun n i => padded 2 (ax m c n i)) (aw1 m c) (aw2 m c)
    (s1 (ax m c) (aw1 m c)) (q1 (ax m c) (aw1 m c)) (ag1 m c) (abe1 m c)
    (fun n p k q => (congrFun (W4_of m ρ c main_v1 (by decide)) _).trans (Host.at_x m ρ c n p k q))
    (fun dy dx k o => (congrFun (W4_of m ρ c main_v2 (by decide)) _).trans (Host.at_w1 m ρ c dy dx k o))
    (fun dy dx k o => (congrFun (W4_of m ρ c main_v3 (by decide)) _).trans (Host.at_w2 m ρ c dy dx k o))
    (fun o => (congrFun (W4_of m ρ c main_v121 (by decide)) _).trans (Host.at_g1 m ρ c o))
    (fun o => (congrFun (W4_of m ρ c main_v122 (by decide)) _).trans (Host.at_be1 m ρ c o))
    (at_s1 m ρ c) (at_q1 m ρ c) o)

/-- What the host operations before the first call prepared is unchanged at the third. -/
theorem kept (r : Ref sig .tc) (h7 : r ∉ hostOps2_1_W) (h6 : r ∉ hostOps2_W)
    (h5 : ∀ w : Fin cfg1.W, Pipeline.arrRef spec1 w = r → (cfg1.win w).isOut = false)
    (h4 : ∀ w : Fin cfg0.W, Pipeline.arrRef spec0 w = r → (cfg0.win w).isOut = false) : V7 m ρ c r = V3 m ρ c r :=
  (W7_of m ρ c r h7).trans ((W6_of m ρ c r h6).trans ((W5_of m ρ c r h5).trans (W4_of m ρ c r h4)))

/-- What the second call wrote is unchanged at the third. -/
theorem kept5 (r : Ref sig .tc) (h7 : r ∉ hostOps2_1_W) (h6 : r ∉ hostOps2_W) : V7 m ρ c r = W5 m ρ c (Proc.devRef .tc r) :=
  (W7_of m ρ c r h7).trans (W6_of m ρ c r h6)

/-- The maxima with a column of zeros on either side. -/
def framed (n : Fin 4) (o : Fin 128) (p y : ℕ) : EReal :=
  if 1 ≤ y ∧ y ≤ 192 then pooled (ax m c) (aw1 m c) (ag1 m c) (abe1 m c) (aw2 m c) n o (p - 1) (y - 1) else 0

/-- The third call's array: the logistic of the transposed convolution, twelve channels at each position. -/
theorem at_deconv (n : Fin 4) (i k : Fin 192) (j : Fin 12) (p : Fin 4) (hp : j.val / 3 = p.val) :
    W8 m ρ c (Proc.devRef .tc main_v128) (ix4 n i k j)
      = out (ax m c) (aw1 m c) (ag1 m c) (abe1 m c) (aw2 m c) (ag2 m c) (abe2 m c) (awt m c) (abt m c) n
          (⟨j.val % 3, Nat.mod_lt _ (by decide)⟩ : Fin 3) i k ⟨p.val / 2, by omega⟩ ⟨p.val % 2, by omega⟩ := by
  refine (congrFun (W8_arr m ρ c 9) _).trans ((Deconv.arr_out (V7 m ρ) c (framed m c)
    (fun j i => deconvW (awt m c i (⟨j.val % 3, Nat.mod_lt _ (by decide)⟩ : Fin 3)) ⟨j.val / 3 / 2, by omega⟩ ⟨j.val / 3 % 2, by omega⟩)
    (s2 (ax m c) (aw1 m c) (ag1 m c) (abe1 m c) (aw2 m c)) (q2 (ax m c) (aw1 m c) (ag1 m c) (abe1 m c) (aw2 m c))
    (ag2 m c) (abe2 m c) (fun j => abt m c (⟨j.val % 3, Nat.mod_lt _ (by decide)⟩ : Fin 3))
    (fun n i y o => ?_)
    (fun dy dx k j => (congrFun (kept m ρ c main_v116 (by decide) (by decide) (by decide) (by decide)) _).trans
      (Weights.at_w9 m ρ c dy dx k j ⟨j.val / 3, by omega⟩ rfl))
    (fun o => (congrFun (kept m ρ c main_v123 (by decide) (by decide) (by decide) (by decide)) _).trans (Host.at_g2 m ρ c o))
    (fun o => (congrFun (kept m ρ c main_v124 (by decide) (by decide) (by decide) (by decide)) _).trans (Host.at_be2 m ρ c o))
    (fun j => (congrFun (kept m ρ c main_v120 (by decide) (by decide) (by decide) (by decide)) _).trans (Host.at_bt m ρ c j))
    (fun o => (congrFun (kept5 m ρ c main_v126_1 (by decide) (by decide)) _).trans (at_s2 m ρ c o))
    (fun o => (congrFun (kept5 m ρ c main_v126_2 (by decide) (by decide)) _).trans (at_q2 m ρ c o)) n i k j).trans ?_)
  · refine (Host.at_pool m ρ c n i y o).trans ?_
    unfold framed
    by_cases h : 1 ≤ y.val ∧ y.val ≤ 192
    · rw [dif_pos h, if_pos h, at_max]
      rfl
    · rw [dif_neg h, if_neg h]
  · obtain ⟨p, hp'⟩ := p
    obtain rfl : j.val / 3 = p := hp
    unfold out
    have e : (fun i : Fin 128 => inside 192 192 fun p y => act (s2 (ax m c) (aw1 m c) (ag1 m c) (abe1 m c) (aw2 m c) i)
          (q2 (ax m c) (aw1 m c) (ag1 m c) (abe1 m c) (aw2 m c) i) (ag2 m c i) (abe2 m c i) (framed m c n i p y))
        = h2 (ax m c) (aw1 m c) (ag1 m c) (abe1 m c) (aw2 m c) (ag2 m c) (abe2 m c) n := by
      funext i p y
      unfold h2 inside
      by_cases h : (1 ≤ p ∧ p ≤ 192) ∧ (1 ≤ y ∧ y ≤ 192)
      · rw [if_pos h, if_pos h]
        unfold framed
        dsimp only
        rw [if_pos h.2]
      · rw [if_neg h, if_neg h]
    rw [e]

/-- The result at an index. -/
theorem at_out (n : Fin 4) (co : Fin 3) (h w : Fin 384) :
    W9 m ρ c (Proc.devRef .tc main_v131) (ix4 n co h w)
      = out (ax m c) (aw1 m c) (ag1 m c) (abe1 m c) (aw2 m c) (ag2 m c) (abe2 m c) (awt m c) (abt m c) n co
          (h.val / 2) (w.val / 2) ⟨h.val % 2, Nat.mod_lt _ (by decide)⟩ ⟨w.val % 2, Nat.mod_lt _ (by decide)⟩ := by
  refine (Host.at_result m ρ c n co h w).trans ((at_deconv m ρ c n _ _ _ (⟨h.val % 2 * 2 + w.val % 2, by omega⟩ : Fin 4) ?_).trans ?_)
  · show ((h.val % 2 * 2 + w.val % 2) * 3 + co.val) / 3 = h.val % 2 * 2 + w.val % 2
    omega
  · have e0 : (⟨((h.val % 2 * 2 + w.val % 2) * 3 + co.val) % 3, Nat.mod_lt _ (by decide)⟩ : Fin 3) = co := Fin.ext (by
      show ((h.val % 2 * 2 + w.val % 2) * 3 + co.val) % 3 = co.val
      omega)
    have e1 : (⟨(h.val % 2 * 2 + w.val % 2) / 2, by omega⟩ : Fin 2) = ⟨h.val % 2, Nat.mod_lt _ (by decide)⟩ := Fin.ext (by
      show (h.val % 2 * 2 + w.val % 2) / 2 = h.val % 2
      omega)
    have e2 : (⟨(h.val % 2 * 2 + w.val % 2) % 2, by omega⟩ : Fin 2) = ⟨w.val % 2, Nat.mod_lt _ (by decide)⟩ := Fin.ext (by
      show (h.val % 2 * 2 + w.val % 2) % 2 = w.val % 2
      omega)
    show out _ _ _ _ _ _ _ _ _ n (⟨((h.val % 2 * 2 + w.val % 2) * 3 + co.val) % 3, Nat.mod_lt _ (by decide)⟩ : Fin 3) (h.val / 2) (w.val / 2)
      (⟨(h.val % 2 * 2 + w.val % 2) / 2, by omega⟩ : Fin 2) (⟨(h.val % 2 * 2 + w.val % 2) % 2, by omega⟩ : Fin 2) = _
    rw [e0, e1, e2]

end Cert.KernelIdeal.Result

end
-- ==== Proof.KernelRun.lean ====
/- The kernel's run with its result: what the host operations after the last call leave in the result's buffer. -/
module

public import proofs.«01_k».proof.Proof.Gen.KernelIdeal.Frame

@[expose] public section

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

-- the type of a state of the machine, as the frame names it
local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends, with the result's buffer at the contents followed through the program and the arguments as launched. -/
theorem run : θ_run defs (onTc (τ := τ) (main (F := Ideal))) ⟨m, fun _ => 0, ρ⟩ (fun r => ∀ c : Dev nD,
      r.2.mem ((c.tc : Thread nD τ).loc main_v131) = W9 m ρ c (Proc.devRef .tc main_v131)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨h c _ (mem_uc main_v131 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.Result

end
-- ==== Proof.RefConv.lean ====
/- The reference's two convolutions read at an index: each is the sum of nine taps, and the bias. -/
module

public import proofs.«01_k».proof.Proof.Gen.ReferenceIdeal.Read
public import proofs.«01_k».proof.Proof.Spec
public import Idealize.ShloMosaic.Lib.Pointwise
public import Idealize.ShloMosaic.Lib.Tactic

@[expose] public section

noncomputable section

namespace Cert.ReferenceIdeal.Net

open Cert.ReferenceIdeal Cert.ReferenceIdeal.Gen Cert.ReferenceIdeal.Read Cert.Net Idealize.ShloMosaic Idealize.ShloMosaic.TcCoe Idealize.SL.Sem

/-- The image padded by one. -/
theorem pad1_apply (x0 : Vec Ideal S4x3x384x384 .f32) (n : Fin 4) (k : Fin 3) (p q : Fin 386) :
    val_main_v0 (F := Ideal) x0 (ix4 n k p q) = padded 1 (fun h w => x0 (ix4 n k h w)) p q := by
  unfold val_main_v0 val_main_call0_v0 val_main_c
  pointwise
  unfold padded
  split
  · rfl
  · show (((0#32).toInt : ℝ) : EReal) = 0
    simp

/-- The first convolution. -/
theorem conv1_apply (x0 : Vec Ideal S4x3x384x384 .f32) (x1 : Vec Ideal S64x3x3x3 .f32) (x2 : Vec Ideal S64 .f32) (n : Fin 4) (o : Fin 64) (h w : Fin 384) :
    val_main_v58 (F := Ideal) x0 x1 x2 (ix4 n o h w)
      = conv (fun i => padded 1 fun h w => x0 (ix4 n i h w)) (fun i dy dx => x1 (ix4 o i dy dx)) h w + x2 (ix1 o) := by
  rw [conv_nine]
  unfold val_main_v58
  unfold val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_cst
  pointwise
  simp only [pad1_apply, Nat.add_comm 1, Nat.add_comm 2]

/-- The first layer's output padded by one. -/
theorem pad2_apply (x0 : Vec Ideal S4x3x384x384 .f32) (x1 : Vec Ideal S64x3x3x3 .f32) (x2 x3 x4 : Vec Ideal S64 .f32) (n : Fin 4) (k : Fin 64) (p q : Fin 386) :
    val_main_v78 (F := Ideal) x0 x1 x2 x3 x4 (ix4 n k p q) = padded 1 (fun h w => val_main_v77 (F := Ideal) x0 x1 x2 x3 x4 (ix4 n k h w)) p q := by
  unfold val_main_v78 val_main_call3_v0 val_main_c_4
  pointwise
  unfold padded
  split
  · rfl
  · show (((0#32).toInt : ℝ) : EReal) = 0
    simp

/-- The second convolution. -/
theorem conv2_apply (x0 : Vec Ideal S4x3x384x384 .f32) (x1 : Vec Ideal S64x3x3x3 .f32) (x2 x3 x4 : Vec Ideal S64 .f32) (x5 : Vec Ideal S128x64x3x3 .f32) (x6 : Vec Ideal S128 .f32) (n : Fin 4) (o : Fin 128) (h w : Fin 384) :
    val_main_v136 (F := Ideal) x0 x1 x2 x3 x4 x5 x6 (ix4 n o h w)
      = conv (fun i => padded 1 fun h w => val_main_v77 (F := Ideal) x0 x1 x2 x3 x4 (ix4 n i h w)) (fun i dy dx => x5 (ix4 o i dy dx)) h w
        + x6 (ix1 o) := by
  rw [conv_nine]
  unfold val_main_v136
  unfold val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_cst_5
  pointwise
  simp only [pad2_apply, Nat.add_comm 1, Nat.add_comm 2]

/-- The pooled output spread out to every second row and column from row and column two on. -/
def spread (f : Fin 192 → Fin 192 → EReal) (p q : ℕ) : EReal :=
  if h : (2 ≤ p ∧ (p - 2) % 2 = 0 ∧ (p - 2) / 2 < 192) ∧ (2 ≤ q ∧ (q - 2) % 2 = 0 ∧ (q - 2) / 2 < 192) then
    f ⟨(p - 2) / 2, h.1.2.2⟩ ⟨(q - 2) / 2, h.2.2.2⟩ else 0

/-- The pooled array spread out with zeros between and around its pixels, at an element. -/
theorem pad3_apply (x0 : Vec Ideal S4x3x384x384 .f32) (x1 : Vec Ideal S64x3x3x3 .f32) (x2 x3 x4 : Vec Ideal S64 .f32) (x5 : Vec Ideal S128x64x3x3 .f32) (x6 x7 x8 : Vec Ideal S128 .f32) (n : Fin 4) (k : Fin 128) (p q : Fin 387) :
    val_main_v160 (F := Ideal) x0 x1 x2 x3 x4 x5 x6 x7 x8 (ix4 n k p q)
      = spread (fun h w => val_main_v157 (F := Ideal) x0 x1 x2 x3 x4 x5 x6 x7 x8 (ix4 n k h w)) p q := by
  unfold val_main_v160 val_main_cst_11
  pointwise
  unfold spread
  rfl

/-- The four-by-four correlation of the images `U i` with the reversed weights `wt i`. -/
def deconv {m : ℕ} (U : Fin m → ℕ → ℕ → EReal) (wt : Fin m → Fin 4 → Fin 4 → EReal) (p q : ℕ) : EReal :=
  ∑ ky : Fin 4, ∑ kx : Fin 4, ∑ i : Fin m, U i (p + ky) (q + kx) * wt i ky.rev kx.rev

/-- The transposed convolution. -/
theorem deconv_apply (x0 : Vec Ideal S4x3x384x384 .f32) (x1 : Vec Ideal S64x3x3x3 .f32) (x2 x3 x4 : Vec Ideal S64 .f32) (x5 : Vec Ideal S128x64x3x3 .f32) (x6 x7 x8 : Vec Ideal S128 .f32) (x9 : Vec Ideal S128x3x4x4 .f32) (x10 : Vec Ideal S3 .f32) (n : Fin 4) (o : Fin 3) (h w : Fin 384) :
    val_main_v260 (F := Ideal) x0 x1 x2 x3 x4 x5 x6 x7 x8 x9 x10 (ix4 n o h w)
      = deconv (fun i => spread fun h w => val_main_v157 (F := Ideal) x0 x1 x2 x3 x4 x5 x6 x7 x8 (ix4 n i h w)) (fun i ky kx => x9 (ix4 i o ky kx)) h w
        + x10 (ix1 o) := by
  unfold val_main_v260
  unfold val_main_v259 val_main_v258 val_main_v257 val_main_v256 val_main_v255 val_main_v254 val_main_v253 val_main_v252 val_main_v251 val_main_v250 val_main_v249 val_main_v248 val_main_v247 val_main_v246 val_main_v245 val_main_v244 val_main_v243 val_main_v242 val_main_v241 val_main_v240 val_main_v239 val_main_v238 val_main_v237 val_main_v236 val_main_v235 val_main_v234 val_main_v233 val_main_v232 val_main_v231 val_main_v230 val_main_v229 val_main_v228 val_main_v227 val_main_v226 val_main_v225 val_main_v224 val_main_v223 val_main_v222 val_main_v221 val_main_v220 val_main_v219 val_main_v218 val_main_v217 val_main_v216 val_main_v215 val_main_v214 val_main_v213 val_main_v212 val_main_v211 val_main_v210 val_main_v209 val_main_v208 val_main_v207 val_main_v206 val_main_v205 val_main_v204 val_main_v203 val_main_v202 val_main_v201 val_main_v200 val_main_v199 val_main_v198 val_main_v197 val_main_v196 val_main_v195 val_main_v194 val_main_v193 val_main_v192 val_main_v191 val_main_v190 val_main_v189 val_main_v188 val_main_v187 val_main_v186 val_main_v185 val_main_v184 val_main_v183 val_main_v182 val_main_v181 val_main_v180 val_main_v179 val_main_v178 val_main_v177 val_main_v176 val_main_v175 val_main_v174 val_main_v173 val_main_v172 val_main_v171 val_main_v170 val_main_v169 val_main_v168 val_main_v167 val_main_v166 val_main_v165 val_main_v164 val_main_v163 val_main_v162 val_main_v161 val_main_v159 val_main_v158 val_main_cst_12
  pointwise
  have m0 : ((0 : Fin 4) ∈ ([2, 3] : List (Fin 4))) = False := by decide
  have m1 : ((1 : Fin 4) ∈ ([2, 3] : List (Fin 4))) = False := by decide
  have m2 : ((2 : Fin 4) ∈ ([2, 3] : List (Fin 4))) = True := by decide
  have m3 : ((3 : Fin 4) ∈ ([2, 3] : List (Fin 4))) = True := by decide
  unfold deconv
  rw [Fin.sum_univ_four, Fin.sum_univ_four, Fin.sum_univ_four, Fin.sum_univ_four, Fin.sum_univ_four]
  simp only [m0, m1, m2, m3, ↓reduceIte, pad3_apply, Nat.add_comm 1, Nat.add_comm 2, Nat.add_comm 3, Fin.val_zero, Fin.val_one, Fin.val_two,
    show ((3 : Fin 4) : ℕ) = 3 from rfl, Nat.add_zero, ← add_assoc]

end Cert.ReferenceIdeal.Net

end
-- ==== Proof.Transposed.lean ====
/- The transposed convolution: the four-by-four correlation of the image spread out with zeros between its elements, at each
   of the four output parities, is a three-by-three correlation of the padded image in which four taps are left. -/
module

public import proofs.«01_k».proof.Proof.Spec
public import proofs.«01_k».proof.Proof.RefConv

@[expose] public section

noncomputable section

namespace Cert.Net

open Idealize.ShloMosaic Cert.ReferenceIdeal.Net

/-- The spread image is the image padded by one at the even positions, and zero elsewhere. -/
theorem spread_eq (f : Fin 192 → Fin 192 → EReal) (p q : ℕ) :
    spread f p q = if p % 2 = 0 ∧ q % 2 = 0 then padded 1 f (p / 2) (q / 2) else 0 := by
  unfold spread padded
  by_cases h : (2 ≤ p ∧ (p - 2) % 2 = 0 ∧ (p - 2) / 2 < 192) ∧ (2 ≤ q ∧ (q - 2) % 2 = 0 ∧ (q - 2) / 2 < 192)
  · rw [dif_pos h, if_pos (by omega), dif_pos (by omega)]
    exact congrArg₂ f (Fin.ext (by show (p - 2) / 2 = p / 2 - 1; omega)) (Fin.ext (by show (q - 2) / 2 = q / 2 - 1; omega))
  · rw [dif_neg h]
    by_cases h' : p % 2 = 0 ∧ q % 2 = 0
    · rw [if_pos h', dif_neg (by omega)]
    · rw [if_neg h']

/-- The sum of the products of the padded image at a position with one of the weights. -/
def prod (f : Fin 128 → Fin 192 → Fin 192 → EReal) (wt : Fin 128 → Fin 4 → Fin 4 → EReal) (p q : ℕ) (ky kx : Fin 4) : EReal :=
  ∑ i : Fin 128, padded 1 (f i) p q * wt i ky kx

/-- The sum over the channels of the spread image. -/
theorem spread_prod (f : Fin 128 → Fin 192 → Fin 192 → EReal) (wt : Fin 128 → Fin 4 → Fin 4 → EReal) (p q : ℕ) (ky kx : Fin 4) :
    (∑ i : Fin 128, spread (f i) p q * wt i ky kx) = if p % 2 = 0 ∧ q % 2 = 0 then prod f wt (p / 2) (q / 2) ky kx else 0 := by
  by_cases h : p % 2 = 0 ∧ q % 2 = 0
  · rw [if_pos h]
    exact Finset.sum_congr rfl fun i _ => by rw [spread_eq, if_pos h]
  · rw [if_neg h]
    exact Finset.sum_eq_zero fun i _ => by rw [spread_eq, if_neg h, zero_mul]

/-- The sum over the channels at one of the nine taps. -/
theorem tap_prod (f : Fin 128 → Fin 192 → Fin 192 → EReal) (wt : Fin 128 → Fin 4 → Fin 4 → EReal) (p q : ℕ) (a b : Fin 2) (r s : Fin 3) :
    (∑ i : Fin 128, padded 1 (f i) p q * deconvW (wt i) a b r s)
      = match tap a r, tap b s with
        | some ky, some kx => prod f wt p q ky kx
        | _, _ => 0 := by
  unfold deconvW
  cases tap a r <;> cases tap b s <;> simp [prod]

/-- At output position `(2 m + a, 2 k + b)`. -/
theorem deconv_eq (f : Fin 128 → Fin 192 → Fin 192 → EReal) (wt : Fin 128 → Fin 4 → Fin 4 → EReal) (m k : ℕ) (a b : Fin 2) :
    deconv (fun i => spread (f i)) wt (2 * m + a) (2 * k + b) = conv (fun i => padded 1 (f i)) (fun i => deconvW (wt i) a b) m k := by
  unfold deconv conv
  simp only [spread_prod, tap_prod]
  have e : ∀ (x : ℕ) (a : Fin 2) (y : Fin 4), (2 * x + a.val + y.val) % 2 = (a.val + y.val) % 2 := fun x a y => by omega
  have d : ∀ (x : ℕ) (a : Fin 2) (y : Fin 4), (2 * x + a.val + y.val) / 2 = x + (a.val + y.val) / 2 := fun x a y => by omega
  simp only [e, d]
  fin_cases a <;> fin_cases b <;> simp [Fin.sum_univ_three, Fin.sum_univ_four, tap]

end Cert.Net

end
-- ==== Proof.RefPool.lean ====
/- The reference's pooling and its last operation read at an index. -/
module

public import proofs.«01_k».proof.Proof.Gen.ReferenceIdeal.Read
public import proofs.«01_k».proof.Proof.Spec
public import Idealize.ShloMosaic.Lib.Pointwise
public import Idealize.ShloMosaic.Lib.Tactic

@[expose] public section

noncomputable section

namespace Cert.ReferenceIdeal.Net

open Cert.ReferenceIdeal Cert.ReferenceIdeal.Gen Cert.ReferenceIdeal.Read Cert.Net Idealize.ShloMosaic Idealize.ShloMosaic.TcCoe Idealize.SL.Sem

/-- The windows are the two-by-two squares. -/
theorem pool_window (x : S4x128x384x384.Idx → EReal) (init : S_.Idx → EReal) (hinit : init (Shape.Idx.first h_S_) = ⊥)
    (n : Fin 4) (o : Fin 128) (m k : Fin 192) :
    Host.reduceWindow (FloatOps.maximumf (F := Ideal) (φ := .f32)) ![1, 1, 2, 2] ![1, 1, 2, 2] ![0, 0, 0, 0] ![0, 0, 0, 0] x init
        reduceWindows_S4x128x384x384_S4x128x192x192_w1s1p0_0_w1s1p0_0_w2s2p0_0_w2s2p0_0 h_S_ (ix4 n o m k)
      = max (max (x (ix4 n o (⟨2 * m.val, by omega⟩ : Fin 384) (⟨2 * k.val, by omega⟩ : Fin 384)))
            (x (ix4 n o (⟨2 * m.val, by omega⟩ : Fin 384) (⟨2 * k.val + 1, by omega⟩ : Fin 384))))
          (max (x (ix4 n o (⟨2 * m.val + 1, by omega⟩ : Fin 384) (⟨2 * k.val, by omega⟩ : Fin 384)))
            (x (ix4 n o (⟨2 * m.val + 1, by omega⟩ : Fin 384) (⟨2 * k.val + 1, by omega⟩ : Fin 384)))) := by
  have e : ∀ (c : Fin (⟨4, ![1, 1, 2, 2]⟩ : Shape).numel) (a b : Fin 2), c.val = 2 * a.val + b.val →
      (⟨4, ![1, 1, 2, 2]⟩ : Shape).rowMajor.symm c = ix4 (0 : Fin 1) (0 : Fin 1) a b := by
    intro c a b hc
    refine ((⟨4, ![1, 1, 2, 2]⟩ : Shape).rowMajor.symm_apply_eq).2 (Fin.ext ?_)
    rw [Shape.rowMajor_val_four]
    show c.val = ((0 * 1 + 0) * 2 + a.val) * 2 + b.val
    omega
  have at_pixel : ∀ (i : S4x128x384x384.Idx) (p q : Fin 384), (i 0).val = n.val → (i 1).val = o.val → (i 2).val = p.val → (i 3).val = q.val →
      x i = x (ix4 n o p q) := by
    intro i p q h0 h1 h2 h3
    refine congrArg x (funext fun r => Fin.ext ?_)
    match r with
    | ⟨0, _⟩ => exact h0
    | ⟨1, _⟩ => exact h1
    | ⟨2, _⟩ => exact h2
    | ⟨3, _⟩ => exact h3
  have hl : List.finRange (⟨4, ![1, 1, 2, 2]⟩ : Shape).numel = [⟨0, by decide⟩, ⟨1, by decide⟩, ⟨2, by decide⟩, ⟨3, by decide⟩] := by decide
  have hm := m.isLt
  have hk := k.isLt
  have hn := n.isLt
  have ho := o.isLt
  have fits : ∀ (a b : Fin 2) (r : Fin 4), (![0, 0, 0, 0] : Fin 4 → ℕ) r
        ≤ ((ix4 n o m k : S4x128x192x192.Idx) r).val * (![1, 1, 2, 2] : Fin 4 → ℕ) r + ((ix4 (0 : Fin 1) (0 : Fin 1) a b : (⟨4, ![1, 1, 2, 2]⟩ : Shape).Idx) r).val
      ∧ ((ix4 n o m k : S4x128x192x192.Idx) r).val * (![1, 1, 2, 2] : Fin 4 → ℕ) r + ((ix4 (0 : Fin 1) (0 : Fin 1) a b : (⟨4, ![1, 1, 2, 2]⟩ : Shape).Idx) r).val
        - (![0, 0, 0, 0] : Fin 4 → ℕ) r < (![4, 128, 384, 384] : Fin 4 → ℕ) r := by
    intro a b r
    match r with
    | ⟨0, _⟩ => exact ⟨Nat.zero_le _, by show n.val * 1 + 0 - 0 < 4; omega⟩
    | ⟨1, _⟩ => exact ⟨Nat.zero_le _, by show o.val * 1 + 0 - 0 < 128; omega⟩
    | ⟨2, _⟩ => exact ⟨Nat.zero_le _, by show m.val * 2 + a.val - 0 < 384; omega⟩
    | ⟨3, _⟩ => exact ⟨Nat.zero_le _, by show k.val * 2 + b.val - 0 < 384; omega⟩
  unfold Host.reduceWindow
  dsimp only
  rw [hl, hinit]
  simp only [List.foldl_cons, List.foldl_nil]
  simp only [e ⟨0, by decide⟩ 0 0 rfl, e ⟨1, by decide⟩ 0 1 rfl, e ⟨2, by decide⟩ 1 0 rfl, e ⟨3, by decide⟩ 1 1 rfl]
  rw [dif_pos, dif_pos, dif_pos, dif_pos]
  · show max (max (max (max ⊥ (x _)) (x _)) (x _)) (x _) = _
    rw [max_eq_right bot_le, max_assoc (max _ _)]
    refine congrArg₂ max (congrArg₂ max (at_pixel _ _ _ ?_ ?_ ?_ ?_) (at_pixel _ _ _ ?_ ?_ ?_ ?_))
      (congrArg₂ max (at_pixel _ _ _ ?_ ?_ ?_ ?_) (at_pixel _ _ _ ?_ ?_ ?_ ?_))
    · show n.val * 1 + 0 - 0 = n.val; omega
    · show o.val * 1 + 0 - 0 = o.val; omega
    · show m.val * 2 + 0 - 0 = 2 * m.val; omega
    · show k.val * 2 + 0 - 0 = 2 * k.val; omega
    · show n.val * 1 + 0 - 0 = n.val; omega
    · show o.val * 1 + 0 - 0 = o.val; omega
    · show m.val * 2 + 0 - 0 = 2 * m.val; omega
    · show k.val * 2 + 1 - 0 = 2 * k.val + 1; omega
    · show n.val * 1 + 0 - 0 = n.val; omega
    · show o.val * 1 + 0 - 0 = o.val; omega
    · show m.val * 2 + 1 - 0 = 2 * m.val + 1; omega
    · show k.val * 2 + 0 - 0 = 2 * k.val; omega
    · show n.val * 1 + 0 - 0 = n.val; omega
    · show o.val * 1 + 0 - 0 = o.val; omega
    · show m.val * 2 + 1 - 0 = 2 * m.val + 1; omega
    · show k.val * 2 + 1 - 0 = 2 * k.val + 1; omega
  · exact fits 1 1
  · exact fits 1 0
  · exact fits 0 1
  · exact fits 0 0

/-- The pooling. -/
theorem pool_apply (x0 : Vec Ideal S4x3x384x384 .f32) (x1 : Vec Ideal S64x3x3x3 .f32) (x2 x3 x4 : Vec Ideal S64 .f32) (x5 : Vec Ideal S128x64x3x3 .f32) (x6 x7 x8 : Vec Ideal S128 .f32) (n : Fin 4) (o : Fin 128) (m k : Fin 192) :
    val_main_v157 (F := Ideal) x0 x1 x2 x3 x4 x5 x6 x7 x8 (ix4 n o m k)
      = max (max (val_main_v155 (F := Ideal) x0 x1 x2 x3 x4 x5 x6 x7 x8 (ix4 n o (⟨2 * m.val, by omega⟩ : Fin 384) (⟨2 * k.val, by omega⟩ : Fin 384)))
            (val_main_v155 (F := Ideal) x0 x1 x2 x3 x4 x5 x6 x7 x8 (ix4 n o (⟨2 * m.val, by omega⟩ : Fin 384) (⟨2 * k.val + 1, by omega⟩ : Fin 384))))
          (max (val_main_v155 (F := Ideal) x0 x1 x2 x3 x4 x5 x6 x7 x8 (ix4 n o (⟨2 * m.val + 1, by omega⟩ : Fin 384) (⟨2 * k.val, by omega⟩ : Fin 384)))
            (val_main_v155 (F := Ideal) x0 x1 x2 x3 x4 x5 x6 x7 x8 (ix4 n o (⟨2 * m.val + 1, by omega⟩ : Fin 384) (⟨2 * k.val + 1, by omega⟩ : Fin 384)))) := by
  unfold val_main_v157
  refine pool_window _ _ ?_ n o m k
  unfold val_main_v156 val_main_cst_10
  pointwise
  simp [Ideal.ofBits, Ideal.ieee]

/-- The logistic function of a sum as the reference spells it. -/
theorem result_apply (x0 : Vec Ideal S4x3x384x384 .f32) (x1 : Vec Ideal S64x3x3x3 .f32) (x2 x3 x4 : Vec Ideal S64 .f32) (x5 : Vec Ideal S128x64x3x3 .f32) (x6 x7 x8 : Vec Ideal S128 .f32) (x9 : Vec Ideal S128x3x4x4 .f32) (x10 : Vec Ideal S3 .f32) (i : S4x3x384x384.Idx) :
    val_main_v266 (F := Ideal) x0 x1 x2 x3 x4 x5 x6 x7 x8 x9 x10 i = Ideal.logistic (val_main_v260 (F := Ideal) x0 x1 x2 x3 x4 x5 x6 x7 x8 x9 x10 i) := by
  unfold val_main_v266
  unfold val_main_v265 val_main_v264 val_main_v263 val_main_v262 val_main_v261
  pointwise
  have h13 : val_main_cst_13 (F := Ideal) ix0 = (1 : EReal) := by
    unfold val_main_cst_13
    pointwise
  have h14 : val_main_cst_14 (F := Ideal) ix0 = (1 : EReal) := by
    unfold val_main_cst_14
    pointwise
  rw [h13, h14]
  rfl

end Cert.ReferenceIdeal.Net

end
-- ==== Proof.Equation.lean ====
/- The reference's result at an index is the function of the arguments that the kernel's result is. -/
module

public import proofs.«01_k».proof.Proof.Algebra
public import proofs.«01_k».proof.Proof.Transposed
public import proofs.«01_k».proof.Proof.RefPool

@[expose] public section

noncomputable section

namespace Cert.ReferenceIdeal.Net

open Cert.ReferenceIdeal Cert.ReferenceIdeal.Gen Cert.ReferenceIdeal.Read Cert.Net Idealize.ShloMosaic

/-- Padding by one more moves every position by one. -/
theorem padded_succ {a b : ℕ} (k : ℕ) (f : Fin a → Fin b → EReal) (p q : ℕ) : padded (k + 1) f (p + 1) (q + 1) = padded k f p q := by
  unfold padded
  by_cases h : (k ≤ p ∧ p - k < a) ∧ (k ≤ q ∧ q - k < b)
  · rw [dif_pos h, dif_pos (by omega)]
    exact congrArg₂ f (Fin.ext (by show p + 1 - (k + 1) = p - k; omega)) (Fin.ext (by show q + 1 - (k + 1) = q - k; omega))
  · rw [dif_neg h, dif_neg (by omega)]

/-- So does a correlation. -/
theorem conv_succ {k : ℕ} (f : Fin k → Fin 384 → Fin 384 → EReal) (w : Fin k → Fin 3 → Fin 3 → EReal) (p q : ℕ) :
    conv (fun i => padded 2 (f i)) w (p + 1) (q + 1) = conv (fun i => padded 1 (f i)) w p q := by
  unfold conv
  refine Finset.sum_congr rfl fun dy _ => Finset.sum_congr rfl fun dx _ => Finset.sum_congr rfl fun i _ => ?_
  rw [Nat.add_right_comm p, Nat.add_right_comm q]
  exact congrArg (fun r : EReal => r * w i dy dx) (padded_succ 1 (f i) _ _)

/-- A padded real image is real. -/
theorem padded_real {a b : ℕ} (k : ℕ) {f : Fin a → Fin b → EReal} (hf : ∀ h w, IsReal (f h w)) (p q : ℕ) : IsReal (padded k f p q) := by
  unfold padded
  split
  · exact hf _ _
  · exact .zero

/-- An image padded by one, from its elements. -/
theorem padded_inside {a b : ℕ} (f : Fin a → Fin b → EReal) (g : ℕ → ℕ → EReal) (h : ∀ p q, f p q = g (p.val + 1) (q.val + 1)) :
    padded 1 f = inside a b g := by
  funext p q
  unfold padded inside
  by_cases hp : (1 ≤ p ∧ p - 1 < a) ∧ (1 ≤ q ∧ q - 1 < b)
  · rw [dif_pos hp, if_pos (by omega), h]
    show g (p - 1 + 1) (q - 1 + 1) = g p q
    rw [Nat.sub_add_cancel hp.1.1, Nat.sub_add_cancel hp.2.1]
  · rw [dif_neg hp, if_neg (by omega)]

variable (x0 : Vec Ideal S4x3x384x384 .f32) (x1 : Vec Ideal S64x3x3x3 .f32) (x2 x3 x4 : Vec Ideal S64 .f32)
  (x5 : Vec Ideal S128x64x3x3 .f32) (x6 x7 x8 : Vec Ideal S128 .f32) (x9 : Vec Ideal S128x3x4x4 .f32) (x10 : Vec Ideal S3 .f32)

/-- The arguments as functions of their positions. -/
abbrev fx : Fin 4 → Fin 3 → Fin 384 → Fin 384 → EReal := fun n i h w => x0 (ix4 n i h w)
/-- The first convolution's weights as a function of their indices. -/
abbrev fw1 : Fin 64 → Fin 3 → Fin 3 → Fin 3 → EReal := fun o i dy dx => x1 (ix4 o i dy dx)
/-- The first normalisation's scales by channel. -/
abbrev fv1 : Fin 64 → EReal := fun o => x3 (ix1 o)
/-- The second convolution's weights as a function of their indices. -/
abbrev fw2 : Fin 128 → Fin 64 → Fin 3 → Fin 3 → EReal := fun o i dy dx => x5 (ix4 o i dy dx)
/-- The second normalisation's scales by channel. -/
abbrev fv2 : Fin 128 → EReal := fun o => x7 (ix1 o)
/-- The transposed convolution's weights as a function of their indices. -/
abbrev fwt : Fin 128 → Fin 3 → Fin 4 → Fin 4 → EReal := fun i o ky kx => x9 (ix4 i o ky kx)
/-- The transposed convolution's bias by channel. -/
abbrev fbt : Fin 3 → EReal := fun o => x10 (ix1 o)

variable (hx : ∀ n i h w, IsReal (fx x0 n i h w)) (hw1 : ∀ o i dy dx, IsReal (fw1 x1 o i dy dx)) (hb1 : ∀ o, IsReal (fv1 x2 o))
  (hg1 : ∀ o, IsReal (fv1 x3 o)) (hbe1 : ∀ o, fv1 x4 o ≠ ⊤) (hw2 : ∀ o i dy dx, IsReal (fw2 x5 o i dy dx)) (hb2 : ∀ o, IsReal (fv2 x6 o))
  (hg2 : ∀ o, ∃ r : ℝ, 0 ≤ r ∧ fv2 x7 o = (r : EReal))

include hx hw1

/-- The first convolution is real. -/
theorem c1_real (n : Fin 4) (o : Fin 64) (p q : ℕ) : IsReal (c1 (fx x0) (fw1 x1) n o p q) :=
  conv_real (fun i => padded_real 2 (hx n i)) (hw1 o) p q

/-- Its values as reals, with their sums. -/
theorem c1_values (o : Fin 64) : ∃ c : Fin 4 → Fin 384 → Fin 384 → ℝ,
    (∀ n h w, c1 (fx x0) (fw1 x1) n o (h.val + 1) (w.val + 1) = (c n h w : EReal))
    ∧ s1 (fx x0) (fw1 x1) o = ∑ n : Fin 4, ∑ h : Fin 384, ∑ w : Fin 384, (c n h w : EReal)
    ∧ q1 (fx x0) (fw1 x1) o = ∑ n : Fin 4, ∑ h : Fin 384, ∑ w : Fin 384, (c n h w : EReal) * (c n h w : EReal) := by
  have h : ∀ (n : Fin 4) (h w : Fin 384), ∃ r : ℝ, c1 (fx x0) (fw1 x1) n o (h.val + 1) (w.val + 1) = (r : EReal) :=
    fun n h w => c1_real x0 x1 hx hw1 n o _ _
  choose c hc using h
  refine ⟨c, hc, ?_, ?_⟩
  · unfold s1 total
    simp only [hc]
  · unfold q1 total
    simp only [hc]

include hb1 hg1

/-- The first layer's output. -/
theorem first_layer (n : Fin 4) (o : Fin 64) (h w : Fin 384) :
    val_main_v77 (F := Ideal) x0 x1 x2 x3 x4 (ix4 n o h w)
      = act (s1 (fx x0) (fw1 x1) o) (q1 (fx x0) (fw1 x1) o) (fv1 x3 o) (fv1 x4 o) (c1 (fx x0) (fw1 x1) n o (h.val + 1) (w.val + 1)) := by
  obtain ⟨c, hc, hs, hq⟩ := c1_values x0 x1 hx hw1 o
  obtain ⟨b, hb⟩ := hb1 o
  obtain ⟨g, hg⟩ := hg1 o
  have hY : (fun n h w => val_main_v58 (F := Ideal) x0 x1 x2 (ix4 n o h w)) = fun n h w => (c n h w : EReal) + (b : EReal) := by
    funext n h w
    rw [conv1_apply, ← conv_succ, ← hc, ← hb]
    rfl
  rw [norm1_apply, hY, hc, hg]
  rw [show x3 (ix1 o) = (g : EReal) from hg]
  exact norm_eq c b g (x4 (ix1 o)) _ _ hs hq n h w

/-- Padded by one it is the kernel's. -/
theorem first_padded (n : Fin 4) (o : Fin 64) :
    padded 1 (fun h w => val_main_v77 (F := Ideal) x0 x1 x2 x3 x4 (ix4 n o h w)) = h1 (fx x0) (fw1 x1) (fv1 x3) (fv1 x4) n o :=
  padded_inside _ _ fun p q => first_layer x0 x1 x2 x3 x4 hx hw1 hb1 hg1 n o p q

omit hb1
include hbe1

/-- The first layer's output is real. -/
theorem h1_real (n : Fin 4) (o : Fin 64) (p q : ℕ) : IsReal (h1 (fx x0) (fw1 x1) (fv1 x3) (fv1 x4) n o p q) := by
  obtain ⟨c, hc, hs, hq⟩ := c1_values x0 x1 hx hw1 o
  obtain ⟨g, hg⟩ := hg1 o
  obtain ⟨y, hy⟩ := c1_real x0 x1 hx hw1 n o p q
  unfold h1 inside
  split
  · dsimp only
    rw [hy, hg]
    exact act_real c g _ _ _ (hbe1 o) hs hq y
  · exact .zero

include hw2

/-- The second convolution's values as reals, with their sums. -/
theorem c2_values (o : Fin 128) : ∃ c : Fin 4 → Fin 384 → Fin 384 → ℝ,
    (∀ n (h w : Fin 384), c2 (fx x0) (fw1 x1) (fv1 x3) (fv1 x4) (fw2 x5) n o h w = (c n h w : EReal))
    ∧ s2 (fx x0) (fw1 x1) (fv1 x3) (fv1 x4) (fw2 x5) o = ∑ n : Fin 4, ∑ h : Fin 384, ∑ w : Fin 384, (c n h w : EReal)
    ∧ q2 (fx x0) (fw1 x1) (fv1 x3) (fv1 x4) (fw2 x5) o
      = ∑ n : Fin 4, ∑ h : Fin 384, ∑ w : Fin 384, (c n h w : EReal) * (c n h w : EReal) := by
  have h : ∀ (n : Fin 4) (h w : Fin 384), ∃ r : ℝ, c2 (fx x0) (fw1 x1) (fv1 x3) (fv1 x4) (fw2 x5) n o h w = (r : EReal) :=
    fun n h w => conv_real (fun i => h1_real x0 x1 x3 x4 hx hw1 hg1 hbe1 n i) (hw2 o) _ _
  choose c hc using h
  refine ⟨c, hc, ?_, ?_⟩
  · unfold s2 total
    simp only [hc]
  · unfold q2 total
    simp only [hc]

include hb1 hb2 hg2

/-- The second layer's output before the pooling. -/
theorem second_layer (n : Fin 4) (o : Fin 128) (h w : Fin 384) :
    val_main_v155 (F := Ideal) x0 x1 x2 x3 x4 x5 x6 x7 x8 (ix4 n o h w)
      = act (s2 (fx x0) (fw1 x1) (fv1 x3) (fv1 x4) (fw2 x5) o) (q2 (fx x0) (fw1 x1) (fv1 x3) (fv1 x4) (fw2 x5) o) (fv2 x7 o) (fv2 x8 o)
          (c2 (fx x0) (fw1 x1) (fv1 x3) (fv1 x4) (fw2 x5) n o h w) := by
  obtain ⟨c, hc, hs, hq⟩ := c2_values x0 x1 x3 x4 x5 hx hw1 hg1 hbe1 hw2 o
  obtain ⟨b, hb⟩ := hb2 o
  obtain ⟨g, -, hg⟩ := hg2 o
  have hY : (fun n h w => val_main_v136 (F := Ideal) x0 x1 x2 x3 x4 x5 x6 (ix4 n o h w)) = fun n h w => (c n h w : EReal) + (b : EReal) := by
    funext n h w
    rw [conv2_apply, ← hc, ← hb]
    simp only [first_padded x0 x1 x2 x3 x4 hx hw1 hb1 hg1]
    rfl
  rw [norm2_apply, hY, hc, hg]
  rw [show x7 (ix1 o) = (g : EReal) from hg]
  exact norm_eq c b g (x8 (ix1 o)) _ _ hs hq n h w

/-- The pooled second layer. -/
theorem second_pooled (n : Fin 4) (o : Fin 128) (m k : Fin 192) :
    val_main_v157 (F := Ideal) x0 x1 x2 x3 x4 x5 x6 x7 x8 (ix4 n o m k)
      = act (s2 (fx x0) (fw1 x1) (fv1 x3) (fv1 x4) (fw2 x5) o) (q2 (fx x0) (fw1 x1) (fv1 x3) (fv1 x4) (fw2 x5) o) (fv2 x7 o) (fv2 x8 o)
          (pooled (fx x0) (fw1 x1) (fv1 x3) (fv1 x4) (fw2 x5) n o m k) := by
  obtain ⟨c, hc, hs, hq⟩ := c2_values x0 x1 x3 x4 x5 hx hw1 hg1 hbe1 hw2 o
  obtain ⟨g, hg0, hg⟩ := hg2 o
  rw [pool_apply]
  simp only [second_layer x0 x1 x2 x3 x4 x5 x6 x7 x8 hx hw1 hb1 hg1 hbe1 hw2 hb2 hg2]
  unfold pooled
  rw [hg, act_maxOfFour c g hg0 _ _ _ hs hq]
  rfl

/-- Padded by one it is the kernel's. -/
theorem second_padded (n : Fin 4) (o : Fin 128) :
    padded 1 (fun h w => val_main_v157 (F := Ideal) x0 x1 x2 x3 x4 x5 x6 x7 x8 (ix4 n o h w))
      = h2 (fx x0) (fw1 x1) (fv1 x3) (fv1 x4) (fw2 x5) (fv2 x7) (fv2 x8) n o :=
  padded_inside _ _ fun p q => second_pooled x0 x1 x2 x3 x4 x5 x6 x7 x8 hx hw1 hb1 hg1 hbe1 hw2 hb2 hg2 n o p q

/-- The reference's result at an index. -/
theorem at_out (n : Fin 4) (co : Fin 3) (h w : Fin 384) :
    val_main_v266 (F := Ideal) x0 x1 x2 x3 x4 x5 x6 x7 x8 x9 x10 (ix4 n co h w)
      = out (fx x0) (fw1 x1) (fv1 x3) (fv1 x4) (fw2 x5) (fv2 x7) (fv2 x8) (fwt x9) (fbt x10) n co
          (h.val / 2) (w.val / 2) ⟨h.val % 2, Nat.mod_lt _ (by decide)⟩ ⟨w.val % 2, Nat.mod_lt _ (by decide)⟩ := by
  rw [result_apply, deconv_apply]
  have e := deconv_eq (fun i h w => val_main_v157 (F := Ideal) x0 x1 x2 x3 x4 x5 x6 x7 x8 (ix4 n i h w)) (fun i => fwt x9 i co)
    (h.val / 2) (w.val / 2) ⟨h.val % 2, Nat.mod_lt _ (by decide)⟩ ⟨w.val % 2, Nat.mod_lt _ (by decide)⟩
  simp only [Nat.div_add_mod] at e
  unfold out
  refine congrArg Ideal.logistic (congrArg (fun r : EReal => r + x10 (ix1 co)) (e.trans ?_))
  simp only [second_padded x0 x1 x2 x3 x4 x5 x6 x7 x8 hx hw1 hb1 hg1 hbe1 hw2 hb2 hg2]

end Cert.ReferenceIdeal.Net

end
-- ==== Proof.Algebraic.lean ====
/- The value claim: of equal arguments that meet the precondition, the kernel and the reference leave equal results. -/
module

public import proofs.«01_k».proof.Defs
public import proofs.«01_k».proof.Proof.Pre
public import proofs.«01_k».proof.Proof.Result
public import proofs.«01_k».proof.Proof.KernelRun
public import proofs.«01_k».proof.Proof.Equation
public import proofs.«01_k».proof.Proof.Gen.ReferenceIdeal.Run

@[expose] public section

noncomputable section

namespace Cert.Proof

open Idealize.ShloMosaic Idealize.ShloMosaic.TcCoe Idealize.SL.Sem

/-- A function of an index of four axes is known from its values. -/
theorem ext4 {p q u v : ℕ} {f g : (⟨4, ![p, q, u, v]⟩ : Shape).Idx → EReal} (h : ∀ a b c d, f (ix4 a b c d) = g (ix4 a b c d)) : f = g := by
  funext i
  have e : i = ix4 (i 0) (i 1) (i 2) (i 3) := funext fun r => by
    match r with
    | ⟨0, _⟩ => rfl
    | ⟨1, _⟩ => rfl
    | ⟨2, _⟩ => rfl
    | ⟨3, _⟩ => rfl
  rw [e]
  exact h _ _ _ _

attribute [local instance] Cert.KernelIdeal.Gen.facts Cert.ReferenceIdeal.Gen.facts Cert.Pre_finite_inputs.Read.facts

/-- The two results, of the same arguments, element by element. -/
theorem results_eq (m : (ℓ : Loc Cert.KernelIdeal.nD Cert.KernelIdeal.τ Cert.KernelIdeal.sig) → Buf (Elt Ideal) ℓ)
    (ρ : Dev Cert.KernelIdeal.nD → PrngReg) (hm : Pre_KernelIdeal_finite_inputs m) (c : Dev Cert.KernelIdeal.nD) :
    Cert.ReferenceIdeal.Read.val_main_v266 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
      = Cert.KernelIdeal.Gen.W9 m ρ c (Proc.devRef .tc Cert.KernelIdeal.main_v131) := by
  obtain ⟨h0, h1, h2, h3, h4, h5, h6, h7⟩ := hm c
  refine ext4 fun n co h w => ?_
  refine (Cert.ReferenceIdeal.Net.at_out _ _ _ _ _ _ _ _ _ _ _ (fun n i h w => Cert.Pre_finite_inputs.Read.image h0 (ix4 n i h w))
    (fun o i dy dx => Cert.Pre_finite_inputs.Read.weights1 h1 (ix4 o i dy dx)) (fun o => Cert.Pre_finite_inputs.Read.bias1 h2 (ix1 o))
    (fun o => Cert.Pre_finite_inputs.Read.gain1 h3 (ix1 o)) (fun o => Cert.Pre_finite_inputs.Read.offset1 h4 (ix1 o))
    (fun o i dy dx => Cert.Pre_finite_inputs.Read.weights2 h5 (ix4 o i dy dx)) (fun o => Cert.Pre_finite_inputs.Read.bias2 h6 (ix1 o))
    (fun o => Cert.Pre_finite_inputs.Read.gain2 h7 (ix1 o)) n co h w).trans ?_
  exact (Cert.KernelIdeal.Result.at_out m ρ c n co h w).symm

/-- The value claim. -/
theorem algebraic : Cert.algebraic_KernelIdeal_ReferenceIdeal_pre_finite_inputs := by
  intro m g m' g' hm hargs
  refine ⟨fun c => Cert.KernelIdeal.Gen.W9 m g c (Proc.devRef .tc Cert.KernelIdeal.main_v131), Cert.KernelIdeal.Result.run m g, ?_⟩
  refine (θ_run Cert.ReferenceIdeal.defs _ _).mono (fun r h c => ⟨?_, (h c).2⟩) (Cert.ReferenceIdeal.Value.run (F := Ideal) m' g')
  refine ((h c).1.trans (Cert.ReferenceIdeal.Read.val_main_v266_eq (F := Ideal) (StableHlo.launchContents m' c))).trans ?_
  simp only [StableHlo.launchContents_devRef]
  obtain ⟨a0, a1, a2, a3, a4, a5, a6, a7, a8, a9, a10⟩ := hargs c
  refine Eq.trans ?_ (results_eq m g hm c)
  exact congr (congr (congr (congr (congr (congr (congr (congr (congr (congr (congrArg _ a0) a1) a2) a3) a4) a5) a6) a7) a8) a9) a10

end Cert.Proof

end
-- ==== Proof.lean ====
/- The certificate's claims, assembled: each program runs to completion and leaves its arguments and the semaphore
   counters as they were, with or without the precondition; the named constant is the fraction that the kernel's literal
   rounds; and over the extended reals the kernel's result is the reference's. -/
module

public import proofs.«01_k».proof.Defs
public import proofs.«01_k».proof.Proof.Frames
public import proofs.«01_k».proof.Proof.Algebraic

@[expose] public section

noncomputable section

namespace Cert.Proof

open Idealize.ShloMosaic Idealize.SL.Sem

attribute [local instance] Cert.KernelIdeal.Gen.facts Cert.ReferenceIdeal.Gen.facts Cert.Pre_finite_inputs.Read.facts

/-- The kernel over the extended reals, under the precondition. -/
theorem frame_kernelIdeal_pre : Cert.quiescent_KernelIdeal_pre_finite_inputs := fun m ρ _ => Cert.KernelIdeal.Gen.frame m ρ

/-- The reference, under the precondition. -/
theorem frame_reference_pre : Cert.quiescent_ReferenceIdeal_pre_finite_inputs := fun m ρ _ => frame_reference m ρ trivial

/-- Everything the certificate claims. -/
theorem claim : Cert.Claim := ⟨Cert.Kernel.Gen.facts, Cert.KernelIdeal.Gen.facts, Cert.ReferenceIdeal.Gen.facts,
  Cert.Pre_finite_inputs.Read.facts, frame_kernel, frame_kernelIdeal, frame_kernelIdeal_pre, frame_reference, frame_reference_pre,
  preserves_npix, algebraic⟩

end Cert.Proof

end
